-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_inputs_KernelIdeal [hPre_valid_inputs_KernelIdeal : Cert.Pre_valid_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_valid_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_valid_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_inputs_ReferenceIdeal [hPre_valid_inputs_ReferenceIdeal : Cert.Pre_valid_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_valid_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_valid_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid_inputs_KernelIdeal [hKernelIdeal : Cert.KernelIdeal.Facts] [hPre_valid_inputs_KernelIdeal : Cert.Pre_valid_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid_inputs_ReferenceIdeal [hReferenceIdeal : Cert.ReferenceIdeal.Facts] [hPre_valid_inputs_ReferenceIdeal : Cert.Pre_valid_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid_inputs_KernelIdeal [hKernelIdeal : Cert.KernelIdeal.Facts] [hReferenceIdeal : Cert.ReferenceIdeal.Facts] [hPre_valid_inputs_KernelIdeal : Cert.Pre_valid_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid_inputs_KernelIdeal : Cert.Pre_valid_inputs_KernelIdeal.Facts) (hPre_valid_inputs_ReferenceIdeal : Cert.Pre_valid_inputs_ReferenceIdeal.Facts),
    quiescent_Kernel (hKernel := hKernel)
    ∧ quiescent_KernelIdeal (hKernelIdeal := hKernelIdeal)
    ∧ quiescent_KernelIdeal_pre_valid_inputs_KernelIdeal (hKernelIdeal := hKernelIdeal) (hPre_valid_inputs_KernelIdeal := hPre_valid_inputs_KernelIdeal)
    ∧ quiescent_ReferenceIdeal (hReferenceIdeal := hReferenceIdeal)
    ∧ quiescent_ReferenceIdeal_pre_valid_inputs_ReferenceIdeal (hReferenceIdeal := hReferenceIdeal) (hPre_valid_inputs_ReferenceIdeal := hPre_valid_inputs_ReferenceIdeal)
    ∧ preserves_Kernel_KernelIdeal
    ∧ algebraic_KernelIdeal_ReferenceIdeal_pre_valid_inputs_KernelIdeal (hKernelIdeal := hKernelIdeal) (hReferenceIdeal := hReferenceIdeal) (hPre_valid_inputs_KernelIdeal := hPre_valid_inputs_KernelIdeal)
-- ==== Pre_valid_inputs_KernelIdeal.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)
  bcast_S_S512x2 : S_.BroadcastsInDim S512x2 (![] : Fin 0 → Fin S512x2.rank)

variable [Facts]

def fn {F : FTy → Type} [FloatOps F] (main_arg0 : FVec F S512x256 .f32) (main_arg1 : FVec F S256x16 .f32) (main_arg2 : IVec S512x2 32) (main_arg3 : FVec F S4x256x512 .f32) : IVec S512x256 1 × IVec S256x16 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 16#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Pre_valid_inputs_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)
  bcast_S_S512x2 : S_.BroadcastsInDim S512x2 (![] : Fin 0 → Fin S512x2.rank)

variable [Facts]

def fn {F : FTy → Type} [FloatOps F] (main_arg0 : FVec F S512x256 .f32) (main_arg1 : FVec F S256x16 .f32) (main_arg2 : IVec S512x2 32) (main_arg3 : FVec F S16x256x512 .f32) : IVec S512x256 1 × IVec S256x16 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 16#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Kernel.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S512x512 : Shape := ⟨2, ![512, 512]⟩
abbrev S512x4 : Shape := ⟨2, ![512, 4]⟩
abbrev S4x128x512 : Shape := ⟨3, ![4, 128, 512]⟩
abbrev S128x512 : Shape := ⟨2, ![128, 512]⟩
abbrev S4 : Shape := ⟨1, ![4]⟩
abbrev S_ : Shape := ⟨0, ![]⟩
abbrev S512x16 : Shape := ⟨2, ![512, 16]⟩
abbrev S512 : Shape := ⟨1, ![512]⟩
abbrev S512x1 : Shape := ⟨2, ![512, 1]⟩
abbrev S1024x512 : Shape := ⟨2, ![1024, 512]⟩
abbrev S128x256 : Shape := ⟨2, ![128, 256]⟩
abbrev S128x1 : Shape := ⟨2, ![128, 1]⟩
abbrev S128x1024 : Shape := ⟨2, ![128, 1024]⟩
abbrev S1x128x512 : Shape := ⟨3, ![1, 128, 512]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S512x4, .f32⟩
  | .local _ .vmem, ⟨6, _⟩ => ⟨S4x128x512, .bf16⟩
  | .local _ .vmem, ⟨7, _⟩ => ⟨S4x128x512, .bf16⟩
  | .local _ .vmem, ⟨8, _⟩ => ⟨S128x512, .bf16⟩
  | .local _ .vmem, ⟨9, _⟩ => ⟨S128x512, .bf16⟩
  | .local _ .vmem, ⟨10, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c2_i32_45
  let c4_i32_46 : BitVec 32 := 4#32
  let v105 : BitVec 32 := Scalar.remsi v104 c4_i32_46
  let c128_i32 : BitVec 32 := 128#32
  let v106 : BitVec 32 := Scalar.muli v105 c128_i32
  let v107 : Index := Scalar.indexCast v106
  let c0_47 : Index := 0#32
  ![v107.toNat, 0]
def k0_off2 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c2_i32_45
  let c4_i32_46 : BitVec 32 := 4#32
  let v105 : BitVec 32 := Scalar.remsi v104 c4_i32_46
  let c128_i32_48 : BitVec 32 := 128#32
  let v110 : BitVec 32 := Scalar.muli v105 c128_i32_48
  let v111 : Index := Scalar.indexCast v110
  let c0_49 : Index := 0#32
  ![v111.toNat, 0]
def k0_off3 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c2_i32_45
  let c4_i32_46 : BitVec 32 := 4#32
  let v105 : BitVec 32 := Scalar.remsi v104 c4_i32_46
  let c128_i32_50 : BitVec 32 := 128#32
  let v115 : BitVec 32 := Scalar.muli v105 c128_i32_50
  let v116 : Index := Scalar.indexCast v115
  let c1_51 : Index := 1#32
  ![v116.toNat, 1]
def k0_off4 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c2_i32_45
  let c4_i32_46 : BitVec 32 := 4#32
  let v105 : BitVec 32 := Scalar.remsi v104 c4_i32_46
  let c128_i32_52 : BitVec 32 := 128#32
  let v120 : BitVec 32 := Scalar.muli v105 c128_i32_52
  let v121 : Index := Scalar.indexCast v120
  let c2 : Index := 2#32
  ![v121.toNat, 2]
def k0_off5 (d0 : Dev nD) (c2_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v104 : BitVec 32 := Scalar.addi v2 c2_i32_45
  let c4_i32_46 : BitVec 32 := 4#32
  let v105 : BitVec 32 := Scalar.remsi v104 c4_i32_46
  let c128_i32_53 : BitVec 32 := 128#32
  let v125 : BitVec 32 := Scalar.muli v105 c128_i32_53
  let v126 : Index := Scalar.indexCast v125
  let c3 : Index := 3#32
  ![v126.toNat, 3]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v104 : BitVec 32 := Scalar.addi v2 c2_i32_45
  let c4_i32_46 : BitVec 32 := 4#32
  let v105 : BitVec 32 := Scalar.remsi v104 c4_i32_46
  let c1_i32_63 : BitVec 32 := 1#32
  let v137 : BitVec 32 := Scalar.muli v105 c1_i32_63
  let v138 : BitVec 32 := Scalar.addi c0_i32_64 v137
  v138.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v147 : BitVec 32 := Scalar.addi v2 c3_i32_69
  let c4_i32_70 : BitVec 32 := 4#32
  let v148 : BitVec 32 := Scalar.remsi v147 c4_i32_70
  let c1_i32_89 : BitVec 32 := 1#32
  let v180 : BitVec 32 := Scalar.muli v148 c1_i32_89
  let v181 : BitVec 32 := Scalar.addi c0_i32_90 v180
  v181.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v190 : BitVec 32 := Scalar.addi v2 c1_i32_95
  let c4_i32_96 : BitVec 32 := 4#32
  let v191 : BitVec 32 := Scalar.remsi v190 c4_i32_96
  let c1_i32_115 : BitVec 32 := 1#32
  let v223 : BitVec 32 := Scalar.muli v191 c1_i32_115
  let v224 : BitVec 32 := Scalar.addi c0_i32_116 v223
  v224.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_121 : BitVec 32 := 128#32
  let v233 : BitVec 32 := Scalar.muli v2 c128_i32_121
  let v234 : Index := Scalar.indexCast v233
  let c0_122 : Index := 0#32
  ![v234.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_123 : BitVec 32 := 128#32
  let v237 : BitVec 32 := Scalar.muli v2 c128_i32_123
  let v238 : Index := Scalar.indexCast v237
  let c0_124 : Index := 0#32
  ![v238.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_125 : BitVec 32 := 128#32
  let v242 : BitVec 32 := Scalar.muli v2 c128_i32_125
  let v243 : Index := Scalar.indexCast v242
  let c1_126 : Index := 1#32
  ![v243.toNat, 1]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_127 : BitVec 32 := 128#32
  let v247 : BitVec 32 := Scalar.muli v2 c128_i32_127
  let v248 : Index := Scalar.indexCast v247
  let c2_128 : Index := 2#32
  ![v248.toNat, 2]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_129 : BitVec 32 := 128#32
  let v252 : BitVec 32 := Scalar.muli v2 c128_i32_129
  let v253 : Index := Scalar.indexCast v252
  let c3_130 : Index := 3#32
  ![v253.toNat, 3]
def k0_dev7 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_160 : BitVec 32 := 2#32
  let v288 : BitVec 32 := Scalar.addi v2 c2_i32_160
  let c4_i32_161 : BitVec 32 := 4#32
  let v289 : BitVec 32 := Scalar.remsi v288 c4_i32_161
  let c1_i32_165 : BitVec 32 := 1#32
  let v290 : BitVec 32 := Scalar.muli v289 c1_i32_165
  let v291 : BitVec 32 := Scalar.addi c0_i32_166 v290
  v291.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_182 : BitVec 32 := 128#32
  let v310 : BitVec 32 := Scalar.muli v2 c128_i32_182
  let v311 : Index := Scalar.indexCast v310
  let c0_183 : Index := 0#32
  ![v311.toNat, 0]
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_186 : BitVec 32 := 3#32
  let v317 : BitVec 32 := Scalar.addi v2 c3_i32_186
  let c4_i32_187 : BitVec 32 := 4#32
  let v318 : BitVec 32 := Scalar.remsi v317 c4_i32_187
  let c1_i32_191 : BitVec 32 := 1#32
  let v319 : BitVec 32 := Scalar.muli v318 c1_i32_191
  let v320 : BitVec 32 := Scalar.addi c0_i32_192 v319
  v320.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_195 : BitVec 32 := 1#32
  let v327 : BitVec 32 := Scalar.addi v2 c1_i32_195
  let c4_i32_196 : BitVec 32 := 4#32
  let v328 : BitVec 32 := Scalar.remsi v327 c4_i32_196
  let c1_i32_200 : BitVec 32 := 1#32
  let v329 : BitVec 32 := Scalar.muli v328 c1_i32_200
  let v330 : BitVec 32 := Scalar.addi c0_i32_201 v329
  v330.toNat
def k0_off12 (d0 : Dev nD) (c3_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.addi v2 c3_i32_211
  let c4_i32_212 : BitVec 32 := 4#32
  let v344 : BitVec 32 := Scalar.remsi v343 c4_i32_212
  let c128_i32_216 : BitVec 32 := 128#32
  let v348 : BitVec 32 := Scalar.muli v344 c128_i32_216
  let v349 : Index := Scalar.indexCast v348
  let c0_217 : Index := 0#32
  ![v349.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S1 : Shape := ⟨1, ![1]⟩
abbrev S1x1x1 : Shape := ⟨3, ![1, 1, 1]⟩
abbrev S512x256x512 : Shape := ⟨3, ![512, 256, 512]⟩
abbrev S512x512 : Shape := ⟨2, ![512, 512]⟩

abbrev nBuf : Space → Nat
  | .hbm => 74
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S16x256x512, .f32⟩
  | .hbm, ⟨4, _⟩ => ⟨S512x16, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x16, .f32⟩
  | .hbm, ⟨15, _⟩ => ⟨S512x16, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S_, .i32⟩
  | .hbm, ⟨21, _⟩ => ⟨S512x2, .i32⟩
  | .hbm, ⟨22, _⟩ => ⟨S512x2, .i1⟩
  | .hbm, ⟨23, _⟩ => ⟨S_, .i32⟩
  | .hbm, ⟨24, _⟩ => ⟨S512x2, .i32⟩
  | .hbm, ⟨25, _⟩ => ⟨S512x2, .i32⟩
  | .hbm, ⟨26, _⟩ => ⟨S512x2, .i32⟩
  | .hbm, ⟨27, _⟩ => ⟨S512x2x1, .i32⟩
  | .hbm, ⟨28, _⟩ => ⟨S1, .i32⟩
  | .hbm, ⟨29, _⟩ => ⟨S_, .i32⟩
  | .hbm, ⟨30, _⟩ => ⟨S512x2x1, .i32⟩
  | .hbm, ⟨31, _⟩ => ⟨S512x2x1, .i1⟩
  | .hbm, ⟨32, _⟩ => ⟨S1x1x1, .i32⟩
  | .hbm, ⟨33, _⟩ => ⟨S512x2x1, .i32⟩
  | .hbm, ⟨34, _⟩ => ⟨S512x2x1, .i1⟩
  | .hbm, ⟨35, _⟩ => ⟨S512x2x1, .i1⟩
  | .hbm, ⟨36, _⟩ => ⟨S_, .i1⟩
  | .hbm, ⟨37, _⟩ => ⟨S512x2, .i1⟩
  | .hbm, ⟨38, _⟩ => ⟨S512x2, .f32⟩
  | .hbm, ⟨39, _⟩ => ⟨S_, .f32⟩
  | .hbm, ⟨40, _⟩ => ⟨S512x2, .f32⟩
  | .hbm, ⟨41, _⟩ => ⟨S512x2, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512x256x512, .f32⟩
  | .hbm, ⟨54, _⟩ => ⟨S512x512, .f32⟩
  | .hbm, ⟨55, _⟩ => ⟨S_, .i32⟩
  | .hbm, ⟨56, _⟩ => ⟨S512, .i32⟩
  | .hbm, ⟨57, _⟩ => ⟨S512, .i1⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S512x1, .i32⟩
  | .hbm, ⟨63, _⟩ => ⟨S512x256x512, .f32⟩
  | .hbm, ⟨64, _⟩ => ⟨S512x512, .f32⟩
  | .hbm, ⟨65, _⟩ => ⟨S512x1, .f32⟩
  | .hbm, ⟨66, _⟩ => ⟨S512x1, .f32⟩
  | .hbm, ⟨67, _⟩ => ⟨S512x512, .f32⟩
  | .hbm, ⟨68, _⟩ => ⟨S512x512, .f32⟩
  | .hbm, ⟨69, _⟩ => ⟨S512x1, .f32⟩
  | .hbm, ⟨70, _⟩ => ⟨S512x1, .f32⟩
  | .hbm, ⟨71, _⟩ => ⟨S512x512, .f32⟩
  | .hbm, ⟨72, _⟩ => ⟨S512x512, .f32⟩
  | .hbm, ⟨73, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩

abbrev nD : Nat := 1
abbrev τ : Topo := Topo.v7x

variable {F : FTy → Type} [FloatOps F]
-- ==== Proof.Owned.lean ====
/-
# Stepping through loads and stores while owning a memref

Rules that run one vector load or store of a kernel body while the memref's elements are owned at
known values: a load hands back the values on its rectangle, a store overwrites them there. A slot
of a stack of blocks (one block cut out of the stack and read without its leading axis) has its own
rules, for the body loads and stores a slot through the whole stack.
-/
module

public import proofs.«01_k».proof.Proof.Gen.KernelIdeal
public import proofs.«01_k».proof.Proof.Gen.KernelIdeal.Skeleton
public import Idealize.ShloMosaic.Lib.Memref
public import Idealize.ShloMosaic.Lib.MemrefSat
public import Idealize.ShloMosaic.Lib.VecWindow
public import Idealize.ShloMosaic.Lib.ViewIndex
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Val : EltTy → Type}
variable {Ix : Type} [DecidableEq Ix] {U : Type} [URA U] {Lvl : Type} [Preorder Lvl]

local notation "𝕄" => MT nD τ sig Ix Val ℕ U Lvl

variable {Λ : Labels} {defs : Defs nD τ sig Val Λ} (𝒱 : Variants) (c : Thread nD τ)
variable {α : Type} {cs : CoreSpace} {s : Shape} {e : EltTy} {m : Memref sig c.2.kind cs s e}

/-- A load of a memref owned at `X` continues at `X` on the rectangle, which may be named by equal offsets. -/
theorem wp_load_at {off off' size : Fin s.rank → ℕ} (h : off = off') {inb : ∀ a, off a + size a ≤ s.size a}
    (inb' : ∀ a, off' a + size a ≤ s.size a) {hl : m.view.LoadsAt (Rect.unit off size inb).toLoadRect}
    {k : ((Rect.unit off size inb).toLoadRect.shape.Idx → Val e) → Prog (TpuEff nD τ sig Val Λ c.2) α}
    {q : PosShare TreeShare} {X : s.Idx → Val e} {Q : α → sProp 𝕄} :
    (owns c m q X : sProp 𝕄)
      ⊢ iprop((owns c m q X -∗ wp frame (wpE defs 𝒱 c none) Set.univ (k (fun j => X ((Rect.unit off' size inb').emb j))) Q)
        -∗ wp frame (wpE defs 𝒱 c none) Set.univ (.op (.load m (Rect.unit off size inb).toLoadRect hl) k) Q) := by
  subst h
  unfold owns
  iintro ⟨%f, %hf, H⟩ Hk
  iapply (wp_load 𝒱 c none Set.univ (m := m) (q := q) (S := m.view.set) (f := f)
    (View.set_slice_subset m.view (Rect.unit off size inb) |> fun h => by rw [View.set_slice] at h; exact h)) $$ H
  iintro H
  subst hf
  iapply Hk
  iexists f; isplitr; · ipureintro; rfl
  iexact H

/-- A load of the whole of a memref owned at `X` continues at `X`. -/
theorem wp_load_all {off : Fin s.rank → ℕ} (h : off = fun _ => 0) {inb : ∀ a, off a + s.size a ≤ s.size a}
    {hl : m.view.LoadsAt (Rect.unit off s.size inb).toLoadRect}
    {k : ((Rect.unit off s.size inb).toLoadRect.shape.Idx → Val e) → Prog (TpuEff nD τ sig Val Λ c.2) α}
    {q : PosShare TreeShare} {X : s.Idx → Val e} {Q : α → sProp 𝕄} :
    (owns c m q X : sProp 𝕄)
      ⊢ iprop((owns c m q X -∗ wp frame (wpE defs 𝒱 c none) Set.univ (k X) Q)
        -∗ wp frame (wpE defs 𝒱 c none) Set.univ (.op (.load m (Rect.unit off s.size inb).toLoadRect hl) k) Q) := by
  subst h
  have hX : (fun j => X ((Rect.unit (fun _ => 0) s.size inb).emb j)) = X := funext fun j => by
    rw [Rect.emb_unit_full inb j]
  have := wp_load_at (defs := defs) (Ix := Ix) (U := U) (Lvl := Lvl) (Q := Q) 𝒱 c (m := m) (off := fun _ => 0) rfl inb (hl := hl) (k := k) (q := q) (X := X)
  rw [hX] at this
  exact this

/-- A store through a memref owned at `X` leaves it owned at `X` overwritten on the rectangle. -/
theorem wp_store_at {off off' size : Fin s.rank → ℕ} (h : off = off') {inb : ∀ a, off a + size a ≤ s.size a}
    (inb' : ∀ a, off' a + size a ≤ s.size a) {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} {Q : α → sProp 𝕄} :
    (owns c m fullShare X : sProp 𝕄)
      ⊢ iprop((owns c m fullShare ((Rect.unit off' size inb').overlay X w)
            -∗ wp frame (wpE defs 𝒱 c none) Set.univ (k ⟨⟩) Q)
        -∗ wp frame (wpE defs 𝒱 c none) Set.univ (.op (.store m (Rect.unit off size inb) w Finset.univ hx hm) k) Q) := by
  subst h
  unfold owns
  iintro ⟨%f, %hf, H⟩ Hk
  iapply (wp_store 𝒱 c none Set.univ (m := m) (S := m.view.set) (f := f) (r := Rect.unit off size inb) (w := w) (Mk := Finset.univ)
    (by rw [View.setOn_univ]; exact View.set_slice_subset m.view (Rect.unit off size inb))) $$ H
  iintro H
  iapply Hk
  iexists ((m.access (Rect.unit off size inb)).write Val f w Finset.univ)
  isplitr
  · ipureintro
    funext j
    by_cases hj : j ∈ (Rect.unit off size inb).set
    · obtain ⟨i, rfl⟩ := (Rect.unit off size inb).exists_idx_of_mem hj
      refine Eq.trans ?_ (Rect.overlay_emb (Rect.unit off size inb) X w i).symm
      exact congrFun (View.read_write_univ (v := m.access (Rect.unit off size inb)) f w) i
    · refine Eq.trans ?_ (Rect.overlay_of_not_mem _ _ _ hj).symm
      subst hf
      rw [View.read_apply, View.read_apply, View.write_of_not_mem]
      rw [View.setOn_univ]
      intro hc
      obtain ⟨i, -, hi⟩ := Finset.mem_map.mp hc
      exact hj (by rw [← Rect.map_emb_univ]; exact Finset.mem_map.mpr ⟨i, Finset.mem_univ _, m.view.emb.injective hi⟩)
  iexact H

/-- A store of the whole of a memref leaves it owned at the stored values. -/
theorem wp_store_all {off : Fin s.rank → ℕ} (h : off = fun _ => 0) {inb : ∀ a, off a + s.size a ≤ s.size a}
    {w : (Rect.unit off s.size inb).shape.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} {Q : α → sProp 𝕄} :
    (owns c m fullShare X : sProp 𝕄)
      ⊢ iprop((owns c m fullShare w -∗ wp frame (wpE defs 𝒱 c none) Set.univ (k ⟨⟩) Q)
        -∗ wp frame (wpE defs 𝒱 c none) Set.univ (.op (.store m (Rect.unit off s.size inb) w Finset.univ hx hm) k) Q) := by
  subst h
  have hX : (Rect.unit (fun _ => 0) s.size inb).overlay X w = w := funext fun j => by
    have := Rect.overlay_emb (Rect.unit (fun _ => 0) s.size inb) X w j
    rwa [Rect.emb_unit_full inb j] at this
  have := wp_store_at (defs := defs) (Ix := Ix) (U := U) (Lvl := Lvl) (Q := Q) 𝒱 c (m := m) (off := fun _ => 0) rfl inb (w := w) (hx := hx) (hm := hm) (k := k) (X := X)
  rw [hX] at this
  exact this

end Rules

section Slots

variable {nD : Nat} {τ : Topo} {Val : EltTy → Type}
variable {Ix : Type} [DecidableEq Ix] {U : Type} [URA U] {Lvl : Type} [Preorder Lvl]

local notation "𝕄" => MT nD τ sig Ix Val ℕ U Lvl

/-- The condition that block `d` lies inside the stack of four. -/
abbrev Slot (d : ℕ) : Prop := ∀ a, (![d, 0, 0] : Fin 3 → ℕ) a + S1x128x512.size a ≤ S4x128x512.size a

/-- Block `d` of a stack of four blocks, read without the stack's axis. -/
abbrev slot {κ : Kind} {cs : CoreSpace} {e : EltTy} (M : Memref sig κ cs S4x128x512 e) (d : ℕ) (h : Slot d) :
    Memref sig κ cs S128x512 e :=
  (M.slice (Rect.unit (s := S4x128x512) ![d, 0, 0] S1x128x512.size h) (fun _ => rfl)).squeeze S128x512 squeezes_S1x128x512_S128x512

/-- A block seen with the stack's axis in front. -/
abbrev raise {e : EltTy} (X : S128x512.Idx → Val e) : S1x128x512.Idx → Val e := shapeCast S1x128x512 X shapeCasts_S128x512_S1x128x512

/-- A block with the stack's axis dropped. -/
abbrev lower {e : EltTy} (X : S1x128x512.Idx → Val e) : S128x512.Idx → Val e := shapeCast S128x512 X shapeCasts_S1x128x512_S128x512

/-- Dropping the stack's axis and putting it back changes nothing. -/
theorem raise_lower {e : EltTy} (X : S1x128x512.Idx → Val e) : raise (lower X) = X := by
  funext j
  simp only [raise, lower, shapeCast, Shape.reshapeEquiv_reshapeEquiv, Shape.reshapeEquiv_self]

/-- Putting the stack's axis in front and dropping it changes nothing. -/
theorem lower_raise {e : EltTy} (X : S128x512.Idx → Val e) : lower (raise X) = X := by
  funext j
  simp only [raise, lower, shapeCast, Shape.reshapeEquiv_reshapeEquiv, Shape.reshapeEquiv_self]

variable {Λ : Labels} {defs : Defs nD τ sig Val Λ} (𝒱 : Variants) (c : Thread nD τ)
variable {α : Type} {cs : CoreSpace} {e : EltTy} {M : Memref sig c.2.kind cs S4x128x512 e}

/-- A load of one block through the stack, the block owned at `X`, continues at `X` with the stack's axis in front. -/
theorem wp_load_slot {d : ℕ} {h : Slot d} {hl : M.view.LoadsAt (Rect.unit (s := S4x128x512) ![d, 0, 0] S1x128x512.size h).toLoadRect}
    {k : (S1x128x512.Idx → Val e) → Prog (TpuEff nD τ sig Val Λ c.2) α}
    {q : PosShare TreeShare} {X : S128x512.Idx → Val e} {Q : α → sProp 𝕄} :
    (owns c (slot M d h) q X : sProp 𝕄)
      ⊢ iprop((owns c (slot M d h) q X -∗ wp frame (wpE defs 𝒱 c none) Set.univ (k (raise X)) Q)
        -∗ wp frame (wpE defs 𝒱 c none) Set.univ (.op (.load M (Rect.unit (s := S4x128x512) ![d, 0, 0] S1x128x512.size h).toLoadRect hl) k) Q) := by
  have hset : (slot M d h).view.set = (M.view.slice (Rect.unit (s := S4x128x512) ![d, 0, 0] S1x128x512.size h)).set :=
    View.set_reshape ..
  unfold owns
  rw [hset]
  iintro ⟨%f, %hf, H⟩ Hk
  have hk : M.view.readAt Val (Rect.unit (s := S4x128x512) ![d, 0, 0] S1x128x512.size h).toLoadRect f = raise X := by
    rw [← hf]; exact (raise_lower _).symm
  iapply (wp_load 𝒱 c none Set.univ (m := M) (q := q)
    (S := (M.view.slice (Rect.unit (s := S4x128x512) ![d, 0, 0] S1x128x512.size h)).set) (f := f)
    (by rw [View.set_slice]; exact fun _ h => h)) $$ H
  iintro H
  rw [hk]
  iapply Hk
  iexists f; isplitr; · ipureintro; exact hf
  iexact H

/-- A store of one block through the stack leaves the block owned at the stored values without the stack's axis. -/
theorem wp_store_slot {d : ℕ} {h : Slot d} {w : S1x128x512.Idx → Val e}
    {hx : (M.access (Rect.unit (s := S4x128x512) ![d, 0, 0] S1x128x512.size h)).Stores Finset.univ}
    {hm : (Finset.univ : Finset (Rect.unit (s := S4x128x512) ![d, 0, 0] S1x128x512.size h).shape.Idx) = Finset.univ
      ∨ ∀ a, (Rect.unit (s := S4x128x512) ![d, 0, 0] S1x128x512.size h).stride a = 1}
    {k : PUnit → Prog (TpuEff nD τ sig Val Λ c.2) α} {X : S128x512.Idx → Val e} {Q : α → sProp 𝕄} :
    (owns c (slot M d h) fullShare X : sProp 𝕄)
      ⊢ iprop((owns c (slot M d h) fullShare (lower w) -∗ wp frame (wpE defs 𝒱 c none) Set.univ (k ⟨⟩) Q)
        -∗ wp frame (wpE defs 𝒱 c none) Set.univ
            (.op (.store M (Rect.unit (s := S4x128x512) ![d, 0, 0] S1x128x512.size h) w Finset.univ hx hm) k) Q) := by
  have hset : (slot M d h).view.set = (M.view.slice (Rect.unit (s := S4x128x512) ![d, 0, 0] S1x128x512.size h)).set :=
    View.set_reshape ..
  have hread : ∀ f : M.view.ty.Contents Val, (slot M d h).view.read Val ((M.access (Rect.unit (s := S4x128x512) ![d, 0, 0] S1x128x512.size h)).write Val f w Finset.univ) = lower w := by
    intro f
    have e1 : ∀ g : M.view.ty.Contents Val, (slot M d h).view.read Val g
        = lower (M.view.readAt Val (Rect.unit (s := S4x128x512) ![d, 0, 0] S1x128x512.size h).toLoadRect g) := fun _ => rfl
    rw [e1]
    have := View.read_write_univ (v := M.access (Rect.unit (s := S4x128x512) ![d, 0, 0] S1x128x512.size h)) f w
    rw [show M.view.readAt Val (Rect.unit (s := S4x128x512) ![d, 0, 0] S1x128x512.size h).toLoadRect _ = w from this]
  unfold owns
  rw [hset]
  iintro ⟨%f, %hf, H⟩ Hk
  iapply (wp_store 𝒱 c none Set.univ (m := M)
    (S := (M.view.slice (Rect.unit (s := S4x128x512) ![d, 0, 0] S1x128x512.size h)).set) (f := f)
    (r := Rect.unit (s := S4x128x512) ![d, 0, 0] S1x128x512.size h) (w := w) (Mk := Finset.univ)
    (by rw [View.setOn_univ])) $$ H
  iintro H
  iapply Hk
  iexists ((M.access (Rect.unit (s := S4x128x512) ![d, 0, 0] S1x128x512.size h)).write Val f w Finset.univ)
  isplitr
  · ipureintro
    exact hread f
  iexact H

end Slots

end Cert.Moe

end
-- ==== Proof.Vals.lean ====
/-
# What the kernel puts in each block

The values every device stores and sends, over arbitrary float types, written with the payloads of the
kernel's skeleton: the weights of its own experts, the rows of the mixture it owes each device, the
running sums, and the rows of the result it ends with.
-/
module

public import proofs.«01_k».proof.Proof.Owned

@[expose] public section

noncomputable section

namespace Cert.Moe

open Cert.KernelIdeal Cert.KernelIdeal.Gen
open Idealize.ShloMosaic
open Idealize.ShloMosaic.TcCoe

variable {F : FTy → Type} [FloatOps F]

/-- The device `d` steps after `c` on the ring of four. -/
def peer (c : Dev nD) (d : ℕ) : Dev nD := ⟨(c.val + d) % 4, Nat.mod_lt _ (by decide)⟩

theorem peer_zero (c : Dev nD) : peer c 0 = c := by revert c; decide
theorem peer_13 (c : Dev nD) : peer (peer c 1) 3 = c := by revert c; decide
theorem peer_31 (c : Dev nD) : peer (peer c 3) 1 = c := by revert c; decide
theorem peer_22 (c : Dev nD) : peer (peer c 2) 2 = c := by revert c; decide

/-- The inputs as the devices hold them: the tokens, the router's weights, the chosen experts, the device's own experts. -/
structure Ins (F : FTy → Type) where
  x : Dev nD → Vec F S512x256 .f32
  w : Dev nD → Vec F S256x16 .f32
  i : Dev nD → Vec F S512x2 .i32
  e : Dev nD → Vec F S4x256x512 .f32

theorem tok_inb (q : Dev nD) : ∀ a, (![128 * q.val, 0] : Fin 2 → ℕ) a + S128x256.size a ≤ S512x256.size a := by revert q; decide
theorem out_inb (q : Dev nD) : ∀ a, (![128 * q.val, 0] : Fin 2 → ℕ) a + S128x512.size a ≤ S512x512.size a := by revert q; decide
theorem gate_inb (q : Dev nD) (j : Fin 4) : ∀ a, (![128 * q.val, j.val] : Fin 2 → ℕ) a + S128x1.size a ≤ S512x4.size a := by
  revert q j; decide

/-- The rows of the result that device `q` reduces. -/
abbrev outRect (q : Dev nD) : Rect S512x512 := Rect.unit ![128 * q.val, 0] S128x512.size (out_inb q)

variable (A : Ins F) (c : Dev nD)

/-- The device's number as the kernel computes it. -/
def me : BitVec 32 := Scalar.remsi (Scalar.divsi (Dev.word c) 1#32) 4#32

/-- The first choice of every token. -/
def pick0 : Vec F S512x1 .i32 := fun j => A.i c ((Rect.unit (s := S512x2) ![0, 0] S512x1.size inb_S512x2_S512x1_0_0).emb j)
/-- The second choice of every token. -/
def pick1 : Vec F S512x1 .i32 := fun j => A.i c ((Rect.unit (s := S512x2) ![0, 1] S512x1.size inb_S512x2_S512x1_0_1).emb j)

/-- The router's probabilities. -/
def probs : FVec F S512x16 .f32 := k0_pay1 (A.x c) (A.w c)

/-- The weights of the device's own four experts for every token. -/
def gates : FVec F S512x4 .f32 :=
  k0_pay9 (me c) (k0_pay2 (pick0 A c)) (k0_pay3 (pick1 A c)) (k0_pay4 (probs A c) (pick0 A c)) (k0_pay5 (probs A c) (pick1 A c))
    (k0_pay6 (probs A c) (pick0 A c) (pick1 A c)) (k0_pay7 (me c) (probs A c) (pick0 A c) (pick1 A c))
    (k0_pay8 (me c) (probs A c) (pick0 A c) (pick1 A c)) (Scalar.addi (Scalar.muli (me c) 4#32) 2#32)

/-- The device's own four experts, stacked along the rows. -/
def experts : FVec F S1024x512 .bf16 := k0_pay10 (A.e c)

/-- Device `q`'s rows of the tokens. -/
def tokRows (q : Dev nD) : Vec F S128x256 .f32 := fun j => A.x c ((Rect.unit (s := S512x256) ![128 * q.val, 0] S128x256.size (tok_inb q)).emb j)
/-- Device `q`'s rows of the weights of the device's expert `j`. -/
def gateRows (q : Dev nD) (j : Fin 4) : Vec F S128x1 .f32 :=
  fun i => gates A c ((Rect.unit (s := S512x4) ![128 * q.val, j.val] S128x1.size (gate_inb q j)).emb i)

/-- The device's share of device `q`'s rows, as it is sent. -/
def sentTo (q : Dev nD) : S128x512.Idx → Elt F .bf16 :=
  lower (k0_pay14 (experts A c) (tokRows A c q) (gateRows A c q 0) (gateRows A c q 1) (gateRows A c q 2) (gateRows A c q 3))

/-- The device's share of its own rows. -/
def mine : FVec F S128x512 .f32 :=
  k0_pay16 (experts A c) (tokRows A c c) (gateRows A c c 0) (gateRows A c c 1) (gateRows A c c 2) (gateRows A c c 3)

/-- The device's own rows with its two neighbours' shares added. -/
def part : FVec F S128x512 .f32 := k0_pay17 (mine A c) (raise (sentTo A (peer c 3) c)) (raise (sentTo A (peer c 1) c))
/-- That sum as it is sent to the device across the ring. -/
def partSent : FVec F S128x512 .bf16 := k0_pay18 (mine A c) (raise (sentTo A (peer c 3) c)) (raise (sentTo A (peer c 1) c))
/-- The device's own rows with every share added. -/
def full : FVec F S128x512 .f32 := k0_pay19 (part A c) (raise (sentTo A (peer c 2) c))
/-- That sum as it is sent to the two neighbours. -/
def fullSent : FVec F S128x512 .bf16 := k0_pay20 (part A c) (raise (sentTo A (peer c 2) c))

/-- What the device ends with in device `q`'s rows. -/
def rowsOf (q : Dev nD) : FVec F S128x512 .f32 :=
  if q = c then full A c
  else if q = peer c 3 then k0_pay21 (raise (fullSent A (peer c 3)))
  else if q = peer c 1 then k0_pay22 (raise (fullSent A (peer c 1)))
  else k0_pay24 (k0_pay23 (raise (partSent A (peer c 2)))) (raise (sentTo A c (peer c 2)))

/-- The device whose rows an index of the result lies in. -/
def rowDev (i : S512x512.Idx) : Dev nD := ⟨(i 0).val / 128, by have : (i 0).val < 512 := (i 0).isLt; show _ < 4; omega⟩
/-- The index inside those rows. -/
def rowIdx (i : S512x512.Idx) : S128x512.Idx :=
  fun a => ⟨if a = 0 then (i a).val % 128 else (i a).val, by
    match a with
    | ⟨0, _⟩ => exact Nat.mod_lt _ (by decide)
    | ⟨1, _⟩ => exact (i 1).isLt⟩

/-- Four blocks of rows put together. -/
def glue {α : Type} (f : Dev nD → S128x512.Idx → α) : S512x512.Idx → α := fun i => f (rowDev i) (rowIdx i)

/-- The device's result. -/
def result : FVec F S512x512 .f32 := glue (rowsOf A c)

theorem outRect_emb (i : S512x512.Idx) : (outRect (rowDev i)).emb (rowIdx i) = i := by
  funext a
  apply Fin.ext
  match a with
  | ⟨0, _⟩ =>
    show (128 * ((i 0).val / 128) + 1 * ((i 0).val % 128)) = (i 0).val
    omega
  | ⟨1, _⟩ =>
    show 0 + 1 * (i 1).val = (i 1).val
    omega

theorem rowDev_emb (q : Dev nD) (j : S128x512.Idx) : rowDev ((outRect q).emb j) = q := by
  apply Fin.ext
  have : (j 0).val < 128 := (j 0).isLt
  show (128 * q.val + 1 * (j 0).val) / 128 = q.val
  omega

theorem rowIdx_emb (q : Dev nD) (j : S128x512.Idx) : rowIdx ((outRect q).emb j) = j := by
  funext a
  apply Fin.ext
  match a with
  | ⟨0, _⟩ =>
    have : (j 0).val < 128 := (j 0).isLt
    show (128 * q.val + 1 * (j 0).val) % 128 = (j 0).val
    omega
  | ⟨1, _⟩ =>
    show 0 + 1 * (j 1).val = (j 1).val
    omega

/-- Every result is four blocks of rows put together. -/
theorem exists_glue {α : Type} (X : S512x512.Idx → α) : X = glue fun q j => X ((outRect q).emb j) := by
  funext i; show X i = X _; rw [outRect_emb]

/-- Overwriting device `q`'s rows replaces that block. -/
theorem overlay_glue {α : Type} (f : Dev nD → S128x512.Idx → α) (q : Dev nD) (w : S128x512.Idx → α) :
    (outRect q).overlay (glue f) w = glue (Function.update f q w) := by
  funext i
  by_cases h : rowDev i = q
  · subst h
    have := Rect.overlay_emb (outRect (rowDev i)) (glue f) w (rowIdx i)
    rw [outRect_emb] at this
    rw [this]; unfold glue; rw [Function.update_self]
  · rw [Rect.overlay_of_not_mem]
    · unfold glue; rw [Function.update_of_ne h]
    · intro hi
      obtain ⟨j, rfl⟩ := (outRect q).exists_idx_of_mem hi
      exact h (rowDev_emb q j)

/-- The four stores of the kernel leave the device's result, whatever the output held before. -/
theorem overlay_result (X : S512x512.Idx → Elt F .f32) :
    (outRect (peer c 2)).overlay ((outRect (peer c 1)).overlay ((outRect (peer c 3)).overlay ((outRect c).overlay X
      (full A c)) (k0_pay21 (raise (fullSent A (peer c 3))))) (k0_pay22 (raise (fullSent A (peer c 1)))))
      (k0_pay24 (k0_pay23 (raise (partSent A (peer c 2)))) (raise (sentTo A c (peer c 2)))) = result A c := by
  have key : ∀ (c q : Dev nD), (q = c ∧ q ≠ peer c 3 ∧ q ≠ peer c 1 ∧ q ≠ peer c 2) ∨ (q ≠ c ∧ q = peer c 3 ∧ q ≠ peer c 1 ∧ q ≠ peer c 2)
      ∨ (q ≠ c ∧ q ≠ peer c 3 ∧ q = peer c 1 ∧ q ≠ peer c 2) ∨ (q ≠ c ∧ q ≠ peer c 3 ∧ q ≠ peer c 1 ∧ q = peer c 2) := by decide
  rw [exists_glue X, overlay_glue, overlay_glue, overlay_glue, overlay_glue]
  unfold result
  congr 1
  funext q
  unfold rowsOf
  rcases key c q with ⟨h1, h2, h3, h4⟩ | ⟨h1, h2, h3, h4⟩ | ⟨h1, h2, h3, h4⟩ | ⟨h1, h2, h3, h4⟩
  · rw [if_pos h1, Function.update_of_ne h4, Function.update_of_ne h3, Function.update_of_ne h2, h1, Function.update_self]
  · rw [if_neg h1, if_pos h2, Function.update_of_ne h4, Function.update_of_ne h3, h2, Function.update_self]
  · rw [if_neg h1, if_neg h2, if_pos h3, Function.update_of_ne h4, h3, Function.update_self]
  · rw [if_neg h1, if_neg h2, if_neg h3, h4, Function.update_self]

end Cert.Moe

end
-- ==== Proof.Exchange.lean ====
/-
# The exchange between the four devices

The semaphores as one indexed family of cells per device, what each payment on a cell hands over, how
much every device owes at launch, and the rules for one signal, one remote copy and one wait of the
exchange.

Cell 0 is the runtime's barrier; cells 1 to 3 are the send semaphores of the first exchange, 4 to 6 its
receive semaphores, 7 to 9 the send semaphores of the second exchange and 10 to 12 its receive semaphores.
-/
module

public import proofs.«01_k».proof.Proof.Vals
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange: rounds whose payments are numbered 0 to 3. -/
abbrev UX : Type := URounds (GSem nD τ sig) (Fin 4)
/-- The ghost state of the whole program. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The buffers and the cells -/

abbrev gwM : Memref sig .tc .vmem S512x4 .f32 := Memref.whole cc0_scratch0
abbrev stM : Memref sig .tc .vmem S4x128x512 .bf16 := Memref.whole cc0_scratch1
abbrev rsM : Memref sig .tc .vmem S4x128x512 .bf16 := Memref.whole cc0_scratch2
abbrev redM : Memref sig .tc .vmem S128x512 .bf16 := Memref.whole cc0_scratch3
abbrev p3M : Memref sig .tc .vmem S128x512 .bf16 := Memref.whole cc0_scratch4
abbrev agM : Memref sig .tc .vmem S4x128x512 .bf16 := Memref.whole cc0_scratch5

abbrev i1 : Slot 1 := inb_S4x128x512_S1x128x512_1_0_0
abbrev i2 : Slot 2 := inb_S4x128x512_S1x128x512_2_0_0
abbrev i3 : Slot 3 := inb_S4x128x512_S1x128x512_3_0_0

/-- The semaphore of each cell. -/
def csem : Fin 13 → SemLoc sig := fun
  | 0 => .reg ⟨0, by decide⟩
  | 1 => .dma ⟨6, by decide⟩ | 2 => .dma ⟨7, by decide⟩ | 3 => .dma ⟨8, by decide⟩
  | 4 => .dma ⟨10, by decide⟩ | 5 => .dma ⟨11, by decide⟩ | 6 => .dma ⟨12, by decide⟩
  | 7 => .dma ⟨14, by decide⟩ | 8 => .dma ⟨15, by decide⟩ | 9 => .dma ⟨16, by decide⟩
  | 10 => .dma ⟨18, by decide⟩ | 11 => .dma ⟨19, by decide⟩ | 12 => .dma ⟨20, by decide⟩

/-- Which cell a semaphore is, if any. -/
def roleOf (s : SemLoc sig) : Option (Fin 13) := (List.finRange 13).find? fun k => csem k = s

theorem roleOf_csem : ∀ k : Fin 13, roleOf (csem k) = some k := by decide

theorem csem_injective : Function.Injective csem := fun a b h => by
  have := roleOf_csem a; rw [h, roleOf_csem b] at this; exact (Option.some.inj this).symm

/-- Cell `k` of device `c`. -/
abbrev kcell (x : Dev nD × Fin 13) : GSem nD τ sig := ((x.1 : Thread nD τ), csem x.2)

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one block of rows. -/
abbrev N : ℕ := (redM : Memref sig .tc .vmem S128x512 .bf16).view.dmaCredit
theorem N_pos : 0 < N := View.dmaCredit_pos _ (by decide)

/-! ## What a payment hands over -/

variable (A : Ins F)

/-- A device's landing slots `d` of both exchanges, holding anything. -/
def lend (c : Dev nD) (d : ℕ) (h : Slot d) : sProp 𝕄 :=
  iprop((∃ X, owns (c : Thread nD τ) (slot rsM d h) fullShare X) ∗ ∃ X, owns (c : Thread nD τ) (slot agM d h) fullShare X)

/-- What payment `e` on cell `k` of device `c` hands over. -/
def pay (c : Dev nD) (k : Fin 13) (e : Fin 4) : sProp 𝕄 :=
  match k with
  | 0 => (match e with
    | 0 => iprop(emp)
    | 1 => lend (peer c 1) 3 i3
    | 2 => lend (peer c 2) 2 i2
    | 3 => lend (peer c 3) 1 i1)
  | 1 => owns (c : Thread nD τ) (slot stM 1 i1) fullShare.right (sentTo A c (peer c 1))
  | 2 => owns (c : Thread nD τ) (slot stM 2 i2) fullShare.right (sentTo A c (peer c 2))
  | 3 => owns (c : Thread nD τ) (slot stM 3 i3) fullShare.right (sentTo A c (peer c 3))
  | 4 => owns (c : Thread nD τ) (slot rsM 1 i1) fullShare (sentTo A (peer c 1) c)
  | 5 => owns (c : Thread nD τ) (slot rsM 2 i2) fullShare (sentTo A (peer c 2) c)
  | 6 => owns (c : Thread nD τ) (slot rsM 3 i3) fullShare (sentTo A (peer c 3) c)
  | 7 => owns (c : Thread nD τ) redM fullShare.right (fullSent A c)
  | 8 => owns (c : Thread nD τ) p3M fullShare (partSent A c)
  | 9 => owns (c : Thread nD τ) redM fullShare.left (fullSent A c)
  | 10 => owns (c : Thread nD τ) (slot agM 1 i1) fullShare (fullSent A (peer c 1))
  | 11 => owns (c : Thread nD τ) (slot agM 2 i2) fullShare (partSent A (peer c 2))
  | 12 => owns (c : Thread nD τ) (slot agM 3 i3) fullShare (fullSent A (peer c 3))

instance pay_storable (c : Dev nD) (k : Fin 13) (e : Fin 4) : BI.Storable (upEmb : UEmb _ 𝕄) (pay A c k e) := by
  unfold pay lend
  (repeat' split) <;> infer_instance

/-- The payments of a cell. -/
def due : Fin 13 → Finset (Fin 4) := fun k => if k = 0 then {1, 2, 3} else {0}

/-- The schedule: one round per cell; a barrier has three payments of one unit, every other cell one of a block's credit. -/
def sched : Rounds.Schedule (GSem nD τ sig) (Fin 4) 𝕄 where
  duties g r := if r = 0 ∧ g.1.2 = .tc then (roleOf g.2).elim ∅ due else ∅
  unitless _ := False
  amount g _ _ := if roleOf g.2 = some 0 then 1 else N
  payload g _ e := (roleOf g.2).elim iprop(emp) fun k => pay A g.1.1 k e
  amount_pos g _ _ _ := by
    by_cases h : roleOf g.2 = some 0
    · rw [if_pos h]; exact Nat.one_pos
    · rw [if_neg h]; exact N_pos

instance sched_payload_storable (g : GSem nD τ sig) (r : ℕ) (e : Fin 4) :
    BI.Storable (upEmb : UEmb _ 𝕄) ((sched A).payload g r e) := by
  show BI.Storable upEmb ((roleOf g.2).elim iprop(emp) fun k => pay A g.1.1 k e)
  cases roleOf g.2 with
  | none => exact (inferInstance : BI.Storable (upEmb : UEmb _ 𝕄) (iprop(emp) : sProp 𝕄))
  | some k => exact pay_storable A g.1.1 k e

section Sched

variable (c : Dev nD) (k : Fin 13)

theorem duties_cell : (sched A).duties (kcell (c, k)) 0 = due k := by
  dsimp only [sched]; rw [if_pos ⟨rfl, rfl⟩, roleOf_csem]; rfl
theorem duties_later (g : GSem nD τ sig) : ∀ r, 1 ≤ r → (sched A).duties g r = ∅ :=
  fun r hr => by dsimp only [sched]; rw [if_neg fun h => by omega]
theorem amount_bar (e : Fin 4) : (sched A).amount (kcell (c, 0)) 0 e = 1 := by
  dsimp only [sched]; rw [if_pos (roleOf_csem 0)]
theorem amount_cell (hk : k ≠ 0) (e : Fin 4) : (sched A).amount (kcell (c, k)) 0 e = N := by
  dsimp only [sched]; rw [if_neg]; rw [roleOf_csem]; exact fun h => hk (Option.some.inj h)
theorem payload_cell (e : Fin 4) : (sched A).payload (kcell (c, k)) 0 e = pay A c k e := by
  dsimp only [sched]; rw [roleOf_csem]; rfl
theorem expect_bar : (sched A).expect (kcell (c, 0)) 0 = 3 := by
  unfold Schedule.expect Schedule.amountOf
  rw [duties_cell, Finset.sum_congr rfl fun e _ => amount_bar A c e]; decide
theorem expect_cell (hk : k ≠ 0) : (sched A).expect (kcell (c, k)) 0 = N := by
  unfold Schedule.expect Schedule.amountOf
  rw [duties_cell, due, if_neg hk, Finset.sum_singleton, amount_cell A c k hk]
theorem rest_bar : bigSep ((sched A).duties (kcell (c, 0)) 0 \ ∅) (fun e => (sched A).payload (kcell (c, 0)) 0 e)
    = iprop(pay A c 0 1 ∗ pay A c 0 2 ∗ pay A c 0 3) := by
  rw [Finset.sdiff_empty, duties_cell, bigSep_congr fun e _ => payload_cell A c 0 e,
    bigSep_eq_bigSepL_of_eq [(1 : Fin 4), 2, 3] (by decide) (by decide)]
  rfl
theorem rest_cell (hk : k ≠ 0) : bigSep ((sched A).duties (kcell (c, k)) 0 \ ∅) (fun e => (sched A).payload (kcell (c, k)) 0 e) = pay A c k 0 := by
  rw [Finset.sdiff_empty, duties_cell, due, if_neg hk, bigSep_singleton, payload_cell]

end Sched

/-! ## What is owed, and in which order cells wait -/

/-- The level of a cell: a device waits on a cell only while everything it owes lies above. -/
def lvl : Fin 13 → ℕ := ![1, 0, 0, 0, 2, 2, 2, 0, 0, 0, 3, 3, 3]

def L (g : GSem nD τ sig) : Finset Unit := if g.1.2 = .tc then {()} else ∅
def lv (g : GSem nD τ sig) (_ : Unit) : ℕ := (roleOf g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × Fin 13) (u : Unit) : lv (kcell x) u = lvl x.2 := by unfold lv; rw [roleOf_csem]; rfl

/-- A list of debts, the first to be paid first. -/
def owedL : List ((Dev nD × Fin 13) × ℕ) → CellTallies nD τ sig Unit
  | [] => 0
  | x :: l => owedL l + tallyAt (kcell x.1) () x.2

theorem owedL_apply (l : List ((Dev nD × Fin 13) × ℕ)) (x : Dev nD × Fin 13) :
    owedL l (kcell x) () = (l.map fun y => if x = y.1 then y.2 else 0).sum := by
  induction l with
  | nil => rfl
  | cons y l ih =>
    show (owedL l + tallyAt (kcell y.1) () y.2) (kcell x) () = _
    rw [Pi.add_apply, Finsupp.add_apply, ih, tallyAt_apply, List.map_cons, List.sum_cons, add_comm]
    congr 1
    by_cases h : x = y.1
    · rw [if_pos ⟨by rw [h], rfl⟩, if_pos h]
    · rw [if_neg (fun h' => h (kcell_injective h'.1)), if_neg h]

theorem owedL_pos {l : List ((Dev nD × Fin 13) × ℕ)} {g : GSem nD τ sig} {u : Unit} (h : 0 < owedL l g u) : ∃ x ∈ l, g = kcell x.1 := by
  induction l with
  | nil => exact absurd h (Nat.lt_irrefl 0)
  | cons y l ih =>
    change 0 < (owedL l + tallyAt (kcell y.1) () y.2) g u at h
    rw [Pi.add_apply, Finsupp.add_apply, tallyAt_apply] at h
    by_cases hg : g = kcell y.1
    · exact ⟨y, List.mem_cons_self, hg⟩
    · rw [if_neg (fun h' => hg h'.1)] at h
      obtain ⟨x, hx, hgx⟩ := ih h
      exact ⟨x, List.mem_cons_of_mem _ hx, hgx⟩

/-- Waiting below everything that is owed is allowed. -/
theorem mayWait (c : Dev nD) (s : SemLoc sig) (n : ℕ) (hs : (roleOf s).elim 0 lvl = n) (l : List ((Dev nD × Fin 13) × ℕ))
    (hl : ∀ x ∈ l, n < lvl x.1.2) : (levAts L lv : sProp 𝕄) ⊢ MayWait (c : Thread nD τ) s () (owedL l) :=
  MayOwe.of_cut (L := L) (lev := lv) n (fun p hp => by rw [Finset.mem_singleton.mp hp, L_tc]; exact Finset.mem_singleton_self _)
    (fun g u hg => by obtain ⟨x, -, rfl⟩ := owedL_pos hg; exact Finset.mem_singleton_self _)
    (fun p hp => by rw [Finset.mem_singleton.mp hp]; exact hs.le)
    (fun g u hg => by obtain ⟨x, hx, rfl⟩ := owedL_pos hg; rw [lv_cell]; exact hl x hx)

/-- What device `c` owes at launch, in the order it pays. -/
def debts (c : Dev nD) : List ((Dev nD × Fin 13) × ℕ) :=
  [((peer c 1, 0), 1), ((peer c 2, 0), 1), ((peer c 3, 0), 1),
   ((peer c 2, 5), N), ((peer c 3, 4), N), ((peer c 1, 6), N),
   ((peer c 2, 11), N), ((peer c 3, 10), N), ((peer c 1, 12), N)]

def O₀ (c : Dev nD) : CellTallies nD τ sig Unit := owedL (debts c)

/-! ## The records every device shares -/

variable (K : Dev nD × Fin 13 → ℕ)

/-- Every cell's invariant, and that every cell has reached its round. -/
def records : sProp 𝕄 :=
  iprop((bigSep Finset.univ fun x : Dev nD × Fin 13 => cellInv EX (sched A) (K x) (kcell x))
    ∗ bigSep Finset.univ fun x : Dev nD × Fin 13 => reached EX (kcell x) 0)

instance records_persistent : BI.Persistent (records A K) := by unfold records; infer_instance

theorem inv_at (x : Dev nD × Fin 13) : records A K ⊢ cellInv EX (sched A) (K x) (kcell x) := by
  have h : (bigSep Finset.univ fun x : Dev nD × Fin 13 => (cellInv EX (sched A) (K x) (kcell x) : sProp 𝕄))
      ⊢ cellInv EX (sched A) (K x) (kcell x) := bigSep_elim (Finset.mem_univ x)
  unfold records
  iintro ⟨H, -⟩
  iapply h; iexact H
theorem reached_at (x : Dev nD × Fin 13) : records A K ⊢ reached EX (kcell x) 0 := by
  have h : (bigSep Finset.univ fun x : Dev nD × Fin 13 => (reached EX (kcell x) 0 : sProp 𝕄))
      ⊢ reached EX (kcell x) 0 := bigSep_elim (Finset.mem_univ x)
  unfold records
  iintro ⟨-, H⟩
  iapply h; iexact H

/-- The device's position before its cell `k`'s round. -/
abbrev pos (c : Dev nD) (k : Fin 13) : sProp 𝕄 := atPos EX (kcell (c, k)) 0 ∅ 0
/-- The right to make payment `e` on cell `k` of device `c`. -/
abbrev tok (c : Dev nD) (k : Fin 13) (e : Fin 4) : sProp 𝕄 := dutyTok EX (kcell (c, k)) 0 e
/-- What device `c` still owes, whatever it has waited for. -/
def due' (c : Dev nD) (l : List ((Dev nD × Fin 13) × ℕ)) : sProp 𝕄 := iprop(∃ W, owes (c : Thread nD τ) (owedL l) W)

abbrev 𝒱₀ : Variants := Variants.none

/-! ## The rules of the exchange -/

variable {α : Type} {k : PUnit → Prog (TpuEff nD τ sig (Elt F) Λ₀ .tc) α} (c : Dev nD)

/-- One signal of a peer's barrier. -/
theorem wp_signal_peer {Q : α → sProp 𝕄} {n p : Dev nD} (hn : n = p) (e : Fin 4) (he : e ∈ due 0) (l : List ((Dev nD × Fin 13) × ℕ)) {s : Sem sig}
    (hs : SemLoc.reg s = csem 0) {P : sProp 𝕄} (hP : P ⊢ pay A p 0 e) :
    iprop(records A K ∗ due' c (((p, 0), 1) :: l) ∗ tok p 0 e ∗ P)
      ⊢ iprop((due' c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s 1) k) Q) := by
  subst hn
  unfold due'
  iintro ⟨#HR, ⟨%W, HO⟩, Ht, HP⟩ Hk
  have hc : ((n : Thread nD τ), SemLoc.reg s) = kcell (n, 0) := by rw [hs]
  iapply (Rounds.wp_signal 𝒱₀ EX (sched A) (c : Thread nD τ) none (dst := (n : Thread nD τ)) (κ := K (n, 0)) (r := 0)
      (d := e) (by rw [hc, duties_cell]; exact he) (by rw [hc]; exact amount_bar A n e) () (owedL l) (by rw [hc])) $$ [HO Ht HP]
  · rw [hc]
    isplitr; · iapply (inv_at A K (n, 0)); iexact HR
    isplitl [HO]; · iexact HO
    isplitl [Ht]; · iexact Ht
    isplitl [HP]; · rw [payload_cell]; iapply hP; iexact HP
    iapply (reached_at A K (n, 0)); iexact HR
  iintro HO
  iapply Hk
  iexists W; iexact HO

/-- The wait for the three peers' signals. -/
theorem wp_wait_bar {Q : α → sProp 𝕄} (l : List ((Dev nD × Fin 13) × ℕ)) (hl : ∀ x ∈ l, 1 < lvl x.1.2) {s : Sem sig} (hs : SemLoc.reg s = csem 0) :
    iprop(records A K ∗ levAts L lv ∗ cred (tallyAt (kcell (c, 0)) () 3) ∗ due' c l ∗ pos c 0)
      ⊢ iprop((iprop(due' c l ∗ semVal (kcell (c, 0)) 0 ∗ pay A c 0 1 ∗ pay A c 0 2 ∗ pay A c 0 3)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait s 3) k) Q) := by
  unfold due'
  iintro ⟨#HR, #Hlev, Hc, ⟨%W, HO⟩, Hat⟩ Hk
  have hc : ((c : Thread nD τ), SemLoc.reg s) = kcell (c, 0) := by rw [hs]
  iapply (Rounds.wp_wait_rest_token 𝒱₀ EX (sched A) (c : Thread nD τ) none (κ := K (c, 0))
      (wpE_semWait_eq 𝒱₀ (c : Thread nD τ) none Set.univ) (Set.mem_univ _) () (O := owedL l) (W := W) (R := 0) (m := 0) (T := ∅)
      (by rw [hc, expect_bar])) $$ [Hc HO Hat]
  · rw [hc]
    isplitr; · iapply (inv_at A K (c, 0)); iexact HR
    isplitl [Hc]; · iexact Hc
    isplitl [HO]; · iexact HO
    isplitr; · iapply (mayWait (F := F) c _ 1 (by rw [hs, roleOf_csem]; rfl) l hl); iexact Hlev
    iexact Hat
  rw [hc, rest_bar]
  iintro ⟨HO, Hat, -, Hpay⟩
  imod (Rounds.cell_close EX (sched A) (Set.mem_univ (K (c, 0))) (fun h => h) (R := 0 + 1) (duties_later A (kcell (c, 0)))) $$ [Hat] with Hz
  · isplitr; · iapply (inv_at A K (c, 0)); iexact HR
    iexact Hat
  iapply Hk
  isplitl [HO]; · iexists _; iexact HO
  isplitl [Hz]; · iexact Hz
  iexact Hpay

/-- The wait for one remote copy, at either end. -/
theorem wp_wait_copy {Q : α → sProp 𝕄} (j : Fin 13) (hj : j ≠ 0) (l : List ((Dev nD × Fin 13) × ℕ)) (hl : ∀ x ∈ l, lvl j < lvl x.1.2) {s : DmaSem sig}
    (hs : SemLoc.dma s = csem j) {sp sp' : Space} {t t' : Shape} {e e' : EltTy} {src : Memref sig .tc sp t e} {dst : Memref sig .tc sp' t' e'}
    (hN : dst.view.dmaCredit = N) {h₁ : src.view.WordExact} {h₂ : dst.view.WordExact} :
    iprop(records A K ∗ levAts L lv ∗ cred (tallyAt (kcell (c, j)) () N) ∗ due' c l ∗ pos c j)
      ⊢ iprop((iprop(due' c l ∗ semVal (kcell (c, j)) 0 ∗ pay A c j 0)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h₁ h₂) k) Q) := by
  unfold due'
  iintro ⟨#HR, #Hlev, Hc, ⟨%W, HO⟩, Hat⟩ Hk
  have hc : ((c : Thread nD τ), SemLoc.dma s) = kcell (c, j) := by rw [hs]
  iapply (Rounds.wp_wait_rest_token 𝒱₀ EX (sched A) (c : Thread nD τ) none (κ := K (c, j))
      (wpE_waitDma2_eq 𝒱₀ (c : Thread nD τ) none Set.univ) (Set.mem_univ _) () (O := owedL l) (W := W) (R := 0) (m := 0) (T := ∅)
      (by rw [hc, expect_cell A c j hj, hN, Nat.zero_add])) $$ [Hc HO Hat]
  · rw [hc, hN]
    isplitr; · iapply (inv_at A K (c, j)); iexact HR
    isplitl [Hc]; · iexact Hc
    isplitl [HO]; · iexact HO
    isplitr; · iapply (mayWait (F := F) c _ (lvl j) (by rw [hs, roleOf_csem]; rfl) l hl); iexact Hlev
    iexact Hat
  rw [hc, rest_cell A c j hj]
  iintro ⟨HO, Hat, -, Hpay⟩
  imod (Rounds.cell_close EX (sched A) (Set.mem_univ (K (c, j))) (fun h => h) (R := 0 + 1) (duties_later A (kcell (c, j)))) $$ [Hat] with Hz
  · isplitr; · iapply (inv_at A K (c, j)); iexact HR
    iexact Hat
  iapply Hk
  isplitl [HO]; · iexists _; iexact HO
  isplitl [Hz]; · iexact Hz
  iexact Hpay

/-- One remote copy: the source lent until the send cell is waited for, the target's slot handed to the receiver. -/
theorem wp_send_copy {Q : α → sProp 𝕄} {n p : Dev nD} (hn : n = p) (j₁ j₂ : Fin 13) (hj₁ : j₁ ≠ 0) (hj₂ : j₂ ≠ 0) (l : List ((Dev nD × Fin 13) × ℕ))
    {s₁ s₂ : DmaSem sig} (hs₁ : SemLoc.dma s₁ = csem j₁) (hs₂ : SemLoc.dma s₂ = csem j₂)
    {src dst : Memref sig .tc .vmem S128x512 .bf16} (hN : dst.view.amount (.dma s₂) = N) (q : PosShare TreeShare) (X : S128x512.Idx → Elt F .bf16)
    (hp₁ : pay A c j₁ 0 = owns (c : Thread nD τ) src q X) (hp₂ : pay A p j₂ 0 = owns (p : Thread nD τ) dst fullShare X)
    {hsc : (dst : Memref sig (Dev.tc n : Thread nD τ).2.kind .vmem S128x512 .bf16).view.ref.isScScratch = false}
    {hsrc : src.view.WordExact} {hdst : dst.view.WordExact}
    {hsem : DmaTarget.Typed .vmem (.dma s₂) (.remote (Dev.tc n : Thread nD τ) dst (.dma s₁) hsc)} :
    iprop(records A K ∗ owns (c : Thread nD τ) src q X ∗ (∃ Y, owns (p : Thread nD τ) dst fullShare Y)
        ∗ due' c (((p, j₂), N) :: l) ∗ tok c j₁ 0 ∗ tok p j₂ 0)
      ⊢ iprop((iprop(cred (tallyAt (kcell (c, j₁)) () N) ∗ due' c l)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma s₁) hsc) (.dma s₂) hsrc hdst hsem) k) Q) := by
  subst hn
  have hc₁ : ((c : Thread nD τ), SemLoc.dma s₁) = kcell (c, j₁) := by rw [hs₁]
  have hc₂ : ((n : Thread nD τ), SemLoc.dma s₂) = kcell (n, j₂) := by rw [hs₂]
  unfold due' owns
  iintro ⟨#HR, ⟨%fs, %hfs, Hs⟩, ⟨%Y, %fd, %hfd, Hd⟩, ⟨%W, HO⟩, Ht₁, Ht₂⟩ Hk
  iapply (Rounds.wp_send_pointsTo 𝒱₀ EX (sched A) (c : Thread nD τ) none (κ₁ := K (c, j₁)) (κ₂ := K (n, j₂))
    (r₁ := 0) (r₂ := 0) (d₁ := 0) (d₂ := 0) (fd := fd) (fs := fs) (q := q)
    (by rw [hc₁, duties_cell, due, if_neg hj₁]; exact Finset.mem_singleton_self _)
    (by rw [hc₂, duties_cell, due, if_neg hj₂]; exact Finset.mem_singleton_self _)
    () () N hN (by rw [hc₁]; exact amount_cell A c j₁ hj₁ 0) (by rw [hc₂]; exact amount_cell A n j₂ hj₂ 0) (owedL l) (by rw [hc₂]) (W := W)
    (by rw [hc₁, payload_cell, hp₁]; unfold owns; iintro H; iexists fs; isplitr; · ipureintro; exact hfs
        iexact H)
    (by rw [hc₂, payload_cell, hp₂]; unfold owns; iintro H; iexists _; isplitr; swap; · iexact H
        ipureintro; rw [View.read_write_univ]; exact hfs)) $$ [Hs Hd HO Ht₁ Ht₂]
  · rw [hc₁, hc₂]
    isplitr; · iapply (inv_at A K (c, j₁)); iexact HR
    isplitr; · iapply (inv_at A K (n, j₂)); iexact HR
    isplitl [Hs]; · iexact Hs
    isplitl [Hd]; · iexact Hd
    isplitl [HO]; · iexact HO
    isplitl [Ht₁]; · iexact Ht₁
    isplitr; · iapply (reached_at A K (c, j₁)); iexact HR
    isplitl [Ht₂]; · iexact Ht₂
    iapply (reached_at A K (n, j₂)); iexact HR
  rw [hc₁]
  iintro ⟨Hc, HO⟩
  iapply Hk
  isplitl [Hc]; · iexact Hc
  iexists W; iexact HO

end Cert.Moe

end
-- ==== Proof.Body.lean ====
/-
# Running the kernel's body

The body is run piece by piece in program order: what a piece needs, what it leaves, and the values it
passes on. Together the pieces run one device's whole body, from its share of the exchange to its result.
-/
module

public import proofs.«01_k».proof.Proof.Exchange

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev xM : Memref sig .tc .vmem S512x256 .f32 := Memref.whole cc0_stg0_0
abbrev wM : Memref sig .tc .vmem S256x16 .f32 := Memref.whole cc0_stg1_0
abbrev iM : Memref sig .tc .vmem S512x2 .i32 := Memref.whole cc0_stg2_0
abbrev eM : Memref sig .tc .vmem S4x256x512 .f32 := Memref.whole cc0_stg3_0
abbrev oM : Memref sig .tc .vmem S512x512 .f32 := Memref.whole cc0_stg4_0

theorem hz2 : (![0, 0] : Fin 2 → ℕ) = fun _ => 0 := by funext a; fin_cases a <;> rfl
theorem hz3 : (![0, 0, 0] : Fin 3 → ℕ) = fun _ => 0 := by funext a; fin_cases a <;> rfl

variable (A : Ins F) (K : Dev nD × Fin 13 → ℕ) (c : Dev nD)

/-! ## The semaphores, the devices and the offsets the body computes -/

theorem s_rs_1 : SemLoc.dma ((cc0_scratch6.slice (Rect.unit (s := S4) ![1] S1.size inb_S4_S1_1)).squeeze S_ squeezes_S1_S_).sem = csem 1 := by decide
theorem s_rs_2 : SemLoc.dma ((cc0_scratch6.slice (Rect.unit (s := S4) ![2] S1.size inb_S4_S1_2)).squeeze S_ squeezes_S1_S_).sem = csem 2 := by decide
theorem s_rs_3 : SemLoc.dma ((cc0_scratch6.slice (Rect.unit (s := S4) ![3] S1.size inb_S4_S1_3)).squeeze S_ squeezes_S1_S_).sem = csem 3 := by decide
theorem r_rs_1 : SemLoc.dma ((cc0_scratch7.slice (Rect.unit (s := S4) ![1] S1.size inb_S4_S1_1)).squeeze S_ squeezes_S1_S_).sem = csem 4 := by decide
theorem r_rs_2 : SemLoc.dma ((cc0_scratch7.slice (Rect.unit (s := S4) ![2] S1.size inb_S4_S1_2)).squeeze S_ squeezes_S1_S_).sem = csem 5 := by decide
theorem r_rs_3 : SemLoc.dma ((cc0_scratch7.slice (Rect.unit (s := S4) ![3] S1.size inb_S4_S1_3)).squeeze S_ squeezes_S1_S_).sem = csem 6 := by decide
theorem s_ag_1 : SemLoc.dma ((cc0_scratch8.slice (Rect.unit (s := S4) ![1] S1.size inb_S4_S1_1)).squeeze S_ squeezes_S1_S_).sem = csem 7 := by decide
theorem s_ag_2 : SemLoc.dma ((cc0_scratch8.slice (Rect.unit (s := S4) ![2] S1.size inb_S4_S1_2)).squeeze S_ squeezes_S1_S_).sem = csem 8 := by decide
theorem s_ag_3 : SemLoc.dma ((cc0_scratch8.slice (Rect.unit (s := S4) ![3] S1.size inb_S4_S1_3)).squeeze S_ squeezes_S1_S_).sem = csem 9 := by decide
theorem r_ag_1 : SemLoc.dma ((cc0_scratch9.slice (Rect.unit (s := S4) ![1] S1.size inb_S4_S1_1)).squeeze S_ squeezes_S1_S_).sem = csem 10 := by decide
theorem r_ag_2 : SemLoc.dma ((cc0_scratch9.slice (Rect.unit (s := S4) ![2] S1.size inb_S4_S1_2)).squeeze S_ squeezes_S1_S_).sem = csem 11 := by decide
theorem r_ag_3 : SemLoc.dma ((cc0_scratch9.slice (Rect.unit (s := S4) ![3] S1.size inb_S4_S1_3)).squeeze S_ squeezes_S1_S_).sem = csem 12 := by decide
theorem bar_sem : SemLoc.reg (SemArray.scalar (sig.barrier 0 rfl) : Sems sig S_).sem = csem 0 := by decide

theorem dev1_eq : (⟨k0_dev1 c, k0_dev1_lt c⟩ : Dev nD) = peer c 1 := Fin.ext (k0_dev1_eq c)
theorem dev2_eq : (⟨k0_dev2 c, k0_dev2_lt c⟩ : Dev nD) = peer c 2 := Fin.ext (k0_dev2_eq c)
theorem dev3_eq : (⟨k0_dev3 c, k0_dev3_lt c⟩ : Dev nD) = peer c 3 := Fin.ext (k0_dev3_eq c)
theorem dev4_eq : (⟨k0_dev4 c, k0_dev4_lt c⟩ : Dev nD) = peer c 2 := Fin.ext (k0_dev4_eq c)
theorem dev5_eq : (⟨k0_dev5 c, k0_dev5_lt c⟩ : Dev nD) = peer c 3 := Fin.ext (k0_dev5_eq c)
theorem dev6_eq : (⟨k0_dev6 c, k0_dev6_lt c⟩ : Dev nD) = peer c 1 := Fin.ext (k0_dev6_eq c)
theorem dev7_eq : (⟨k0_dev7 c, k0_dev7_lt c⟩ : Dev nD) = peer c 2 := Fin.ext (k0_dev7_eq c)
theorem dev8_eq : (⟨k0_dev8 c, k0_dev8_lt c⟩ : Dev nD) = peer c 3 := Fin.ext (k0_dev8_eq c)
theorem dev9_eq : (⟨k0_dev9 c, k0_dev9_lt c⟩ : Dev nD) = peer c 1 := Fin.ext (k0_dev9_eq c)

theorem off1_1 : k0_off1 c 1#32 = ![128 * (peer c 1).val, 0] := k0_off1_eq c 0
theorem off2_1 : k0_off2 c 1#32 = ![128 * (peer c 1).val, ((0 : Fin 4)).val] := k0_off2_eq c 0
theorem off3_1 : k0_off3 c 1#32 = ![128 * (peer c 1).val, ((1 : Fin 4)).val] := k0_off3_eq c 0
theorem off4_1 : k0_off4 c 1#32 = ![128 * (peer c 1).val, ((2 : Fin 4)).val] := k0_off4_eq c 0
theorem off5_1 : k0_off5 c 1#32 = ![128 * (peer c 1).val, ((3 : Fin 4)).val] := k0_off5_eq c 0
theorem off12_1 : k0_off12 c 1#32 = ![128 * (peer c 1).val, 0] := k0_off12_eq c 0
theorem off1_2 : k0_off1 c 2#32 = ![128 * (peer c 2).val, 0] := k0_off1_eq c 1
theorem off2_2 : k0_off2 c 2#32 = ![128 * (peer c 2).val, ((0 : Fin 4)).val] := k0_off2_eq c 1
theorem off3_2 : k0_off3 c 2#32 = ![128 * (peer c 2).val, ((1 : Fin 4)).val] := k0_off3_eq c 1
theorem off4_2 : k0_off4 c 2#32 = ![128 * (peer c 2).val, ((2 : Fin 4)).val] := k0_off4_eq c 1
theorem off5_2 : k0_off5 c 2#32 = ![128 * (peer c 2).val, ((3 : Fin 4)).val] := k0_off5_eq c 1
theorem off12_2 : k0_off12 c 2#32 = ![128 * (peer c 2).val, 0] := k0_off12_eq c 1
theorem off1_3 : k0_off1 c 3#32 = ![128 * (peer c 3).val, 0] := k0_off1_eq c 2
theorem off2_3 : k0_off2 c 3#32 = ![128 * (peer c 3).val, ((0 : Fin 4)).val] := k0_off2_eq c 2
theorem off3_3 : k0_off3 c 3#32 = ![128 * (peer c 3).val, ((1 : Fin 4)).val] := k0_off3_eq c 2
theorem off4_3 : k0_off4 c 3#32 = ![128 * (peer c 3).val, ((2 : Fin 4)).val] := k0_off4_eq c 2
theorem off5_3 : k0_off5 c 3#32 = ![128 * (peer c 3).val, ((3 : Fin 4)).val] := k0_off5_eq c 2
theorem off12_3 : k0_off12 c 3#32 = ![128 * (peer c 3).val, 0] := k0_off12_eq c 2
theorem off6_0 : k0_off6 c = ![128 * c.val, 0] := k0_off6_eq c
theorem off7_0 : k0_off7 c = ![128 * c.val, ((0 : Fin 4)).val] := k0_off7_eq c
theorem off8_0 : k0_off8 c = ![128 * c.val, ((1 : Fin 4)).val] := k0_off8_eq c
theorem off9_0 : k0_off9 c = ![128 * c.val, ((2 : Fin 4)).val] := k0_off9_eq c
theorem off10_0 : k0_off10 c = ![128 * c.val, ((3 : Fin 4)).val] := k0_off10_eq c
theorem off11_0 : k0_off11 c = ![128 * c.val, 0] := k0_off11_eq c

theorem amount_slot (M : Memref sig .tc .vmem S4x128x512 .bf16) (d : ℕ) (h : Slot d) (s : DmaSem sig) :
    (slot M d h).view.amount (.dma s) = N := rfl
theorem credit_slot (M : Memref sig .tc .vmem S4x128x512 .bf16) (d : ℕ) (h : Slot d) : (slot M d h).view.dmaCredit = N := rfl
theorem credit_p3 : p3M.view.dmaCredit = N := rfl
theorem credit_red : redM.view.dmaCredit = N := rfl

/-- The receive semaphores of the first exchange lie below what is owed to the second. -/
theorem above_rs : ∀ x ∈ (debts c).drop 6, 2 < lvl x.1.2 := by simp [debts, lvl]
theorem above_rs' : ∀ x ∈ (debts c).drop 7, 2 < lvl x.1.2 := by simp [debts, lvl]
theorem above_bar : ∀ x ∈ (debts c).drop 3, 1 < lvl x.1.2 := by simp [debts, lvl]
theorem above_all (n : ℕ) : ∀ x ∈ (debts c).drop 9, n < lvl x.1.2 := by simp [debts]

/-! ## The stored values are the named ones -/

theorem gates_stored : k0_pay9 (me c) (k0_pay2 (pick0 A c)) (k0_pay3 (pick1 A c)) (k0_pay4 (probs A c) (pick0 A c)) (k0_pay5 (probs A c) (pick1 A c)) (k0_pay6 (probs A c) (pick0 A c) (pick1 A c)) (k0_pay7 (me c) (probs A c) (pick0 A c) (pick1 A c)) (k0_pay8 (me c) (probs A c) (pick0 A c) (pick1 A c)) (Scalar.addi (Scalar.muli (me c) 4#32) 2#32) = gates A c := rfl
theorem stored_2 (q : Dev nD) : lower (k0_pay13 (experts A c) (k0_pay11 (tokRows A c q)) (k0_pay12 (tokRows A c q) (gateRows A c q 0)) (gateRows A c q 1) (gateRows A c q 2) (gateRows A c q 3)) = sentTo A c q := rfl
theorem stored_3 (q : Dev nD) : lower (k0_pay14 (experts A c) (tokRows A c q) (gateRows A c q 0) (gateRows A c q 1) (gateRows A c q 2) (gateRows A c q 3)) = sentTo A c q := rfl
theorem stored_1 (q : Dev nD) : lower (k0_pay15 (experts A c) (tokRows A c q) (gateRows A c q 0) (gateRows A c q 1) (gateRows A c q 2) (gateRows A c q 3)) = sentTo A c q := rfl

/-! ## Loads of rows -/

variable {α : Type}

/-- A load of device `q`'s rows of the tokens. -/
theorem wp_load_tok {Q : α → sProp 𝕄} {off : Fin 2 → ℕ} (q : Dev nD) (h : off = ![128 * q.val, 0]) {inb : ∀ a, off a + S128x256.size a ≤ S512x256.size a}
    {hl : xM.view.LoadsAt (Rect.unit (s := S512x256) off S128x256.size inb).toLoadRect}
    {k : Vec F S128x256 .f32 → Prog (TpuEff nD τ sig (Elt F) Λ₀ .tc) α} :
    (owns (c : Thread nD τ) xM fullShare (A.x c) : sProp 𝕄)
      ⊢ iprop((owns (c : Thread nD τ) xM fullShare (A.x c) -∗ wp frame (wpE (defs₀ (F := F)) 𝒱₀ (c : Thread nD τ) none) Set.univ (k (tokRows A c q)) Q)
        -∗ wp frame (wpE (defs₀ (F := F)) 𝒱₀ (c : Thread nD τ) none) Set.univ (.op (.load xM (Rect.unit (s := S512x256) off S128x256.size inb).toLoadRect hl) k) Q) :=
  wp_load_at 𝒱₀ (c : Thread nD τ) (m := xM) h (tok_inb q)

/-- A load of device `q`'s rows of the weights of expert `j`. -/
theorem wp_load_gate {Q : α → sProp 𝕄} {off : Fin 2 → ℕ} (q : Dev nD) (j : Fin 4) (h : off = ![128 * q.val, j.val]) {inb : ∀ a, off a + S128x1.size a ≤ S512x4.size a}
    {hl : gwM.view.LoadsAt (Rect.unit (s := S512x4) off S128x1.size inb).toLoadRect}
    {k : Vec F S128x1 .f32 → Prog (TpuEff nD τ sig (Elt F) Λ₀ .tc) α} :
    (owns (c : Thread nD τ) gwM fullShare (gates A c) : sProp 𝕄)
      ⊢ iprop((owns (c : Thread nD τ) gwM fullShare (gates A c) -∗ wp frame (wpE (defs₀ (F := F)) 𝒱₀ (c : Thread nD τ) none) Set.univ (k (gateRows A c q j)) Q)
        -∗ wp frame (wpE (defs₀ (F := F)) 𝒱₀ (c : Thread nD τ) none) Set.univ (.op (.load gwM (Rect.unit (s := S512x4) off S128x1.size inb).toLoadRect hl) k) Q) :=
  wp_load_at 𝒱₀ (c : Thread nD τ) (m := gwM) h (gate_inb q j)

/-- A store of device `q`'s rows of the result. -/
theorem wp_store_out {Q : α → sProp 𝕄} {off : Fin 2 → ℕ} (q : Dev nD) (h : off = ![128 * q.val, 0]) {inb : ∀ a, off a + S128x512.size a ≤ S512x512.size a}
    {w : Vec F S128x512 .f32} {hx : (oM.access (Rect.unit (s := S512x512) off S128x512.size inb)).Stores Finset.univ}
    {hm : (Finset.univ : Finset (Rect.unit (s := S512x512) off S128x512.size inb).shape.Idx) = Finset.univ ∨ ∀ a, (Rect.unit (s := S512x512) off S128x512.size inb).stride a = 1}
    {k : PUnit → Prog (TpuEff nD τ sig (Elt F) Λ₀ .tc) α} {X : S512x512.Idx → Elt F .f32} :
    (owns (c : Thread nD τ) oM fullShare X : sProp 𝕄)
      ⊢ iprop((owns (c : Thread nD τ) oM fullShare ((outRect q).overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store oM (Rect.unit (s := S512x512) off S128x512.size inb) w Finset.univ hx hm) k) Q) :=
  wp_store_at 𝒱₀ (c : Thread nD τ) (m := oM) h (out_inb q)

/-! ## The pieces -/

abbrev hw {κ : Kind} (b : Ref sig κ) : (Memref.whole b).IsWhole := Memref.isWhole_whole b

set_option maxHeartbeats 800000 in
/-- The first piece signals the three peers, lending each its landing slots, and computes the router's probabilities. -/
theorem run_part1 {Q : _ → sProp 𝕄}  :
    iprop(records A K ∗ due' c ((debts c).drop 0) ∗ tok (peer c 1) 0 3 ∗ tok (peer c 2) 0 2 ∗ tok (peer c 3) 0 1 ∗ lend c 1 i1 ∗ lend c 2 i2 ∗ lend c 3 i3 ∗ owns (c : Thread nD τ) xM fullShare (A.x c) ∗ owns (c : Thread nD τ) wM fullShare (A.w c))
      ⊢ iprop((iprop(due' c ((debts c).drop 3) ∗ owns (c : Thread nD τ) xM fullShare (A.x c) ∗ owns (c : Thread nD τ) wM fullShare (A.w c)) -∗ Q (⟨c, me c, SemArray.scalar (sig.barrier 0 rfl), probs A c⟩))
        -∗ wp frame (wpE (defs₀ (F := F)) 𝒱₀ (c : Thread nD τ) none) Set.univ
          (k0_part1 (F := F) xM (hw _) wM (hw _) iM (hw _) eM (hw _) oM (hw _) gwM (hw _) stM (hw _) rsM (hw _) redM (hw _) p3M (hw _) agM (hw _) cc0_scratch6 cc0_scratch7 cc0_scratch8 cc0_scratch9 ) Q) := by
  rw [k0_part1_eq_skeleton]; unfold k0_part1_skel
  simp only [semSignalWord, semWaitWord, Prog.lift, Prog.bind_op, Prog.bind_ret, Prog.pure_eq_ret, wp_deviceId]
  iintro ⟨#HR, HO, T1, T2, T3, L1, L2, L3, Hx, Hw⟩ Hk
  iapply (wp_signal_peer A K c (dev1_eq c) 3 (by decide) ((debts c).drop 1) bar_sem (P := lend c 1 i1) (Entails.of_eq (by show _ = lend _ _ _; rw [peer_13]))) $$ [HO T1 L1]
  · isplitr; · iexact HR
    isplitl [HO]; · iexact HO
    isplitl [T1]; · iexact T1
    iexact L1
  iintro HO
  iapply (wp_signal_peer A K c (dev2_eq c) 2 (by decide) ((debts c).drop 2) bar_sem (P := lend c 2 i2) (Entails.of_eq (by show _ = lend _ _ _; rw [peer_22]))) $$ [HO T2 L2]
  · isplitr; · iexact HR
    isplitl [HO]; · iexact HO
    isplitl [T2]; · iexact T2
    iexact L2
  iintro HO
  iapply (wp_signal_peer A K c (dev3_eq c) 1 (by decide) ((debts c).drop 3) bar_sem (P := lend c 3 i3) (Entails.of_eq (by show _ = lend _ _ _; rw [peer_31]))) $$ [HO T3 L3]
  · isplitr; · iexact HR
    isplitl [HO]; · iexact HO
    isplitl [T3]; · iexact T3
    iexact L3
  iintro HO
  iapply (wp_load_all 𝒱₀ (c : Thread nD τ) (m := xM) hz2) $$ Hx; iintro Hx
  iapply (wp_load_all 𝒱₀ (c : Thread nD τ) (m := wM) hz2) $$ Hw; iintro Hw
  rw [wp_ret]; imodintro
  change Entails' _ (Q (⟨c, me c, SemArray.scalar (sig.barrier 0 rfl), probs A c⟩))
  iapply Hk
  isplitl [HO]; · iexact HO
  isplitl [Hx]; · iexact Hx
  iexact Hw

set_option maxHeartbeats 800000 in
/-- The second piece reads the chosen experts. -/
theorem run_part2 {Q : _ → sProp 𝕄}  :
    iprop(owns (c : Thread nD τ) iM fullShare (A.i c))
      ⊢ iprop((iprop(owns (c : Thread nD τ) iM fullShare (A.i c)) -∗ Q (⟨k0_pay2 (pick0 A c), k0_pay3 (pick1 A c), k0_pay4 (probs A c) (pick0 A c), k0_pay5 (probs A c) (pick1 A c), k0_pay6 (probs A c) (pick0 A c) (pick1 A c), k0_pay7 (me c) (probs A c) (pick0 A c) (pick1 A c), k0_pay8 (me c) (probs A c) (pick0 A c) (pick1 A c), Scalar.addi (Scalar.muli (me c) 4#32) 2#32⟩))
        -∗ wp frame (wpE (defs₀ (F := F)) 𝒱₀ (c : Thread nD τ) none) Set.univ
          (k0_part2 (F := F) xM (hw _) wM (hw _) iM (hw _) eM (hw _) oM (hw _) gwM (hw _) stM (hw _) rsM (hw _) redM (hw _) p3M (hw _) agM (hw _) cc0_scratch6 cc0_scratch7 cc0_scratch8 cc0_scratch9 (me c) (probs A c)) Q) := by
  rw [k0_part2_eq_skeleton]; unfold k0_part2_skel
  simp only [semSignalWord, semWaitWord, Prog.lift, Prog.bind_op, Prog.bind_ret, Prog.pure_eq_ret, wp_deviceId]
  iintro ⟨Hi⟩ Hk
  iapply (wp_load_at 𝒱₀ (c : Thread nD τ) (m := iM) rfl inb_S512x2_S512x1_0_0) $$ Hi; iintro Hi
  iapply (wp_load_at 𝒱₀ (c : Thread nD τ) (m := iM) rfl inb_S512x2_S512x1_0_1) $$ Hi; iintro Hi
  rw [wp_ret]; imodintro
  change Entails' _ (Q (⟨k0_pay2 (pick0 A c), k0_pay3 (pick1 A c), k0_pay4 (probs A c) (pick0 A c), k0_pay5 (probs A c) (pick1 A c), k0_pay6 (probs A c) (pick0 A c) (pick1 A c), k0_pay7 (me c) (probs A c) (pick0 A c) (pick1 A c), k0_pay8 (me c) (probs A c) (pick0 A c) (pick1 A c), Scalar.addi (Scalar.muli (me c) 4#32) 2#32⟩))
  iapply Hk
  iexact Hi

set_option maxHeartbeats 800000 in
/-- The third piece stores the weights of the device's own experts and starts on the rows of the device across the ring. -/
theorem run_part3 {Q : _ → sProp 𝕄}  :
    iprop((∃ X, owns ((c) : Thread nD τ) gwM fullShare X) ∗ owns (c : Thread nD τ) eM fullShare (A.e c) ∗ owns (c : Thread nD τ) xM fullShare (A.x c))
      ⊢ iprop((iprop(owns (c : Thread nD τ) gwM fullShare (gates A c) ∗ owns (c : Thread nD τ) eM fullShare (A.e c) ∗ owns (c : Thread nD τ) xM fullShare (A.x c)) -∗ Q (⟨experts A c, Scalar.remsi (Scalar.addi (me c) 2#32) 4#32, k0_pay11 (tokRows A c (peer c 2)), k0_pay12 (tokRows A c (peer c 2)) (gateRows A c (peer c 2) 0), 128#32⟩))
        -∗ wp frame (wpE (defs₀ (F := F)) 𝒱₀ (c : Thread nD τ) none) Set.univ
          (k0_part3 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) (k0_pay2 (pick0 A c)) (k0_pay3 (pick1 A c)) (k0_pay4 (probs A c) (pick0 A c)) (k0_pay5 (probs A c) (pick1 A c)) (k0_pay6 (probs A c) (pick0 A c) (pick1 A c)) (k0_pay7 (me c) (probs A c) (pick0 A c) (pick1 A c)) (k0_pay8 (me c) (probs A c) (pick0 A c) (pick1 A c)) (Scalar.addi (Scalar.muli (me c) 4#32) 2#32)) Q) := by
  rw [k0_part3_eq_skeleton]; unfold k0_part3_skel
  simp only [semSignalWord, semWaitWord, Prog.lift, Prog.bind_op, Prog.bind_ret, Prog.pure_eq_ret, wp_deviceId]
  iintro ⟨⟨%g, Hg⟩, He, Hx⟩ Hk
  iapply (wp_load_all 𝒱₀ (c : Thread nD τ) (m := gwM) hz2) $$ Hg; iintro Hg
  iapply (wp_store_all 𝒱₀ (c : Thread nD τ) (m := gwM) hz2) $$ Hg; iintro Hg
  iapply (wp_load_all 𝒱₀ (c : Thread nD τ) (m := eM) hz3) $$ He; iintro He
  iapply (wp_load_tok A c (peer c 2) (off1_2 c)) $$ Hx; iintro Hx
  rw [gates_stored]
  iapply (wp_load_gate A c (peer c 2) 0 (off2_2 c)) $$ Hg; iintro Hg
  rw [wp_ret]; imodintro
  change Entails' _ (Q (⟨experts A c, Scalar.remsi (Scalar.addi (me c) 2#32) 4#32, k0_pay11 (tokRows A c (peer c 2)), k0_pay12 (tokRows A c (peer c 2)) (gateRows A c (peer c 2) 0), 128#32⟩))
  iapply Hk
  isplitl [Hg]; · iexact Hg
  isplitl [He]; · iexact He
  iexact Hx

set_option maxHeartbeats 800000 in
/-- The fourth piece stores the share of the device across the ring, waits for the peers' signals and sends the share. -/
theorem run_part4 {Q : _ → sProp 𝕄} (v105 v0 : BitVec 32) :
    iprop(records A K ∗ levAts L lv ∗ owns (c : Thread nD τ) gwM fullShare (gates A c) ∗ (∃ X, owns ((c) : Thread nD τ) (slot stM 2 i2) fullShare X) ∗ cred (tallyAt (kcell (c, 0)) () 3) ∗ due' c ((debts c).drop 3) ∗ pos c 0 ∗ tok c 2 0 ∗ tok (peer c 2) 5 0)
      ⊢ iprop((iprop(owns (c : Thread nD τ) gwM fullShare (gates A c) ∗ owns (c : Thread nD τ) (slot stM 2 i2) fullShare.left (sentTo A c (peer c 2)) ∗ semVal (kcell (c, 0)) 0 ∗ lend (peer c 1) 3 i3 ∗ (∃ X, owns ((peer c 2) : Thread nD τ) (slot agM 2 i2) fullShare X) ∗ lend (peer c 3) 1 i1 ∗ cred (tallyAt (kcell (c, 2)) () N) ∗ due' c ((debts c).drop 4)) -∗ Q (Scalar.remsi (Scalar.addi (me c) 3#32) 4#32))
        -∗ wp frame (wpE (defs₀ (F := F)) 𝒱₀ (c : Thread nD τ) none) Set.univ
          (k0_part4 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) (SemArray.scalar (sig.barrier 0 rfl)) (experts A c) v105 (k0_pay11 (tokRows A c (peer c 2))) (k0_pay12 (tokRows A c (peer c 2)) (gateRows A c (peer c 2) 0)) v0) Q) := by
  rw [k0_part4_eq_skeleton]; unfold k0_part4_skel
  simp only [semSignalWord, semWaitWord, Prog.lift, Prog.bind_op, Prog.bind_ret, Prog.pure_eq_ret, wp_deviceId]
  iintro ⟨#HR, #HV, Hg, ⟨%s, Hs⟩, Hc, HO, Hp, T1, T2⟩ Hk
  iapply (wp_load_gate A c (peer c 2) 1 (off3_2 c)) $$ Hg; iintro Hg
  iapply (wp_load_gate A c (peer c 2) 2 (off4_2 c)) $$ Hg; iintro Hg
  iapply (wp_load_gate A c (peer c 2) 3 (off5_2 c)) $$ Hg; iintro Hg
  iapply (wp_load_slot 𝒱₀ (c : Thread nD τ) (M := stM) (h := i2)) $$ Hs; iintro Hs
  iapply (wp_store_slot 𝒱₀ (c : Thread nD τ) (M := stM) (h := i2)) $$ Hs; iintro Hs
  rw [stored_2]
  iapply (wp_wait_bar A K c ((debts c).drop 3) (above_bar c) bar_sem) $$ [Hc HO Hp]
  · isplitr; · iexact HR
    isplitr; · iexact HV
    isplitl [Hc]; · iexact Hc
    isplitl [HO]; · iexact HO
    iexact Hp
  iintro ⟨HO, Hz, P1, P2, P3⟩
  ihave P1 := (Entails.of_eq (show pay A c 0 1 = lend (peer c 1) 3 i3 from rfl)) $$ P1
  ihave P2 := (Entails.of_eq (show pay A c 0 2 = iprop((∃ X, owns ((peer c 2) : Thread nD τ) (slot rsM 2 i2) fullShare X) ∗ (∃ X, owns ((peer c 2) : Thread nD τ) (slot agM 2 i2) fullShare X)) from rfl)) $$ P2
  ihave P3 := (Entails.of_eq (show pay A c 0 3 = lend (peer c 3) 1 i1 from rfl)) $$ P3
  icases P2 with ⟨Hd, D2⟩
  ihave Hs := (owns_halves (c : Thread nD τ) (slot stM 2 i2) fullShare (sentTo A c (peer c 2))).1 $$ Hs
  icases Hs with ⟨Hl, Hr⟩
  iapply (wp_send_copy A K c (dev4_eq c) 2 5 (by decide) (by decide) ((debts c).drop 4) s_rs_2 r_rs_2 (src := slot stM 2 i2) (dst := slot rsM 2 i2) (amount_slot rsM 2 i2 _) fullShare.right (sentTo A c (peer c 2)) rfl (by show owns _ _ _ _ = _; rw [peer_22])) $$ [Hr Hd HO T1 T2]
  · isplitr; · iexact HR
    isplitl [Hr]; · iexact Hr
    isplitl [Hd]; · iexact Hd
    isplitl [HO]; · iexact HO
    isplitl [T1]; · iexact T1
    iexact T2
  iintro ⟨Hcs, HO⟩
  rw [wp_ret]; imodintro
  change Entails' _ (Q (Scalar.remsi (Scalar.addi (me c) 3#32) 4#32))
  iapply Hk
  isplitl [Hg]; · iexact Hg
  isplitl [Hl]; · iexact Hl
  isplitl [Hz]; · iexact Hz
  isplitl [P1]; · iexact P1
  isplitl [D2]; · iexact D2
  isplitl [P3]; · iexact P3
  isplitl [Hcs]; · iexact Hcs
  iexact HO

set_option maxHeartbeats 800000 in
/-- The fifth piece stores the share of the third peer. -/
theorem run_part5 {Q : _ → sProp 𝕄} (v148 : BitVec 32) :
    iprop(owns (c : Thread nD τ) xM fullShare (A.x c) ∗ owns (c : Thread nD τ) gwM fullShare (gates A c) ∗ (∃ X, owns ((c) : Thread nD τ) (slot stM 3 i3) fullShare X))
      ⊢ iprop((iprop(owns (c : Thread nD τ) xM fullShare (A.x c) ∗ owns (c : Thread nD τ) gwM fullShare (gates A c) ∗ owns (c : Thread nD τ) (slot stM 3 i3) fullShare (sentTo A c (peer c 3))) -∗ Q (⟨⟩))
        -∗ wp frame (wpE (defs₀ (F := F)) 𝒱₀ (c : Thread nD τ) none) Set.univ
          (k0_part5 (F := F) xM (hw _) wM (hw _) iM (hw _) eM (hw _) oM (hw _) gwM (hw _) stM (hw _) rsM (hw _) redM (hw _) p3M (hw _) agM (hw _) cc0_scratch6 cc0_scratch7 cc0_scratch8 cc0_scratch9 c (experts A c) v148) Q) := by
  rw [k0_part5_eq_skeleton]; unfold k0_part5_skel
  simp only [semSignalWord, semWaitWord, Prog.lift, Prog.bind_op, Prog.bind_ret, Prog.pure_eq_ret, wp_deviceId]
  iintro ⟨Hx, Hg, ⟨%s, Hs⟩⟩ Hk
  iapply (wp_load_tok A c (peer c 3) (off1_3 c)) $$ Hx; iintro Hx
  iapply (wp_load_gate A c (peer c 3) 0 (off2_3 c)) $$ Hg; iintro Hg
  iapply (wp_load_gate A c (peer c 3) 1 (off3_3 c)) $$ Hg; iintro Hg
  iapply (wp_load_gate A c (peer c 3) 2 (off4_3 c)) $$ Hg; iintro Hg
  iapply (wp_load_gate A c (peer c 3) 3 (off5_3 c)) $$ Hg; iintro Hg
  iapply (wp_load_slot 𝒱₀ (c : Thread nD τ) (M := stM) (h := i3)) $$ Hs; iintro Hs
  iapply (wp_store_slot 𝒱₀ (c : Thread nD τ) (M := stM) (h := i3)) $$ Hs; iintro Hs
  rw [stored_3]
  rw [wp_ret]; imodintro
  change Entails' _ (Q (⟨⟩))
  iapply Hk
  isplitl [Hx]; · iexact Hx
  isplitl [Hg]; · iexact Hg
  iexact Hs

set_option maxHeartbeats 800000 in
/-- The sixth piece sends that share and stores the share of the first peer. -/
theorem run_part6 {Q : _ → sProp 𝕄}  :
    iprop(records A K ∗ owns (c : Thread nD τ) xM fullShare (A.x c) ∗ owns (c : Thread nD τ) gwM fullShare (gates A c) ∗ owns (c : Thread nD τ) (slot stM 3 i3) fullShare (sentTo A c (peer c 3)) ∗ (∃ X, owns ((peer c 3) : Thread nD τ) (slot rsM 1 i1) fullShare X) ∗ due' c ((debts c).drop 4) ∗ tok c 3 0 ∗ tok (peer c 3) 4 0 ∗ (∃ X, owns ((c) : Thread nD τ) (slot stM 1 i1) fullShare X))
      ⊢ iprop((iprop(owns (c : Thread nD τ) xM fullShare (A.x c) ∗ owns (c : Thread nD τ) gwM fullShare (gates A c) ∗ owns (c : Thread nD τ) (slot stM 3 i3) fullShare.left (sentTo A c (peer c 3)) ∗ cred (tallyAt (kcell (c, 3)) () N) ∗ due' c ((debts c).drop 5) ∗ owns (c : Thread nD τ) (slot stM 1 i1) fullShare (sentTo A c (peer c 1))) -∗ Q (Scalar.remsi (Scalar.addi (me c) 1#32) 4#32))
        -∗ wp frame (wpE (defs₀ (F := F)) 𝒱₀ (c : Thread nD τ) none) Set.univ
          (k0_part6 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) (experts A c)) Q) := by
  rw [k0_part6_eq_skeleton]; unfold k0_part6_skel
  simp only [semSignalWord, semWaitWord, Prog.lift, Prog.bind_op, Prog.bind_ret, Prog.pure_eq_ret, wp_deviceId]
  iintro ⟨#HR, Hx, Hg, Hs, Hd, HO, T1, T2, ⟨%s, Hs'⟩⟩ Hk
  ihave Hs := (owns_halves (c : Thread nD τ) (slot stM 3 i3) fullShare (sentTo A c (peer c 3))).1 $$ Hs
  icases Hs with ⟨Hl, Hr⟩
  iapply (wp_send_copy A K c (dev5_eq c) 3 4 (by decide) (by decide) ((debts c).drop 5) s_rs_3 r_rs_1 (src := slot stM 3 i3) (dst := slot rsM 1 i1) (amount_slot rsM 1 i1 _) fullShare.right (sentTo A c (peer c 3)) rfl (by show owns _ _ _ _ = _; rw [peer_31])) $$ [Hr Hd HO T1 T2]
  · isplitr; · iexact HR
    isplitl [Hr]; · iexact Hr
    isplitl [Hd]; · iexact Hd
    isplitl [HO]; · iexact HO
    isplitl [T1]; · iexact T1
    iexact T2
  iintro ⟨Hcs, HO⟩
  iapply (wp_load_tok A c (peer c 1) (off1_1 c)) $$ Hx; iintro Hx
  iapply (wp_load_gate A c (peer c 1) 0 (off2_1 c)) $$ Hg; iintro Hg
  iapply (wp_load_gate A c (peer c 1) 1 (off3_1 c)) $$ Hg; iintro Hg
  iapply (wp_load_gate A c (peer c 1) 2 (off4_1 c)) $$ Hg; iintro Hg
  iapply (wp_load_gate A c (peer c 1) 3 (off5_1 c)) $$ Hg; iintro Hg
  iapply (wp_load_slot 𝒱₀ (c : Thread nD τ) (M := stM) (h := i1)) $$ Hs'; iintro Hs'
  iapply (wp_store_slot 𝒱₀ (c : Thread nD τ) (M := stM) (h := i1)) $$ Hs'; iintro Hs'
  rw [stored_1]
  rw [wp_ret]; imodintro
  change Entails' _ (Q (Scalar.remsi (Scalar.addi (me c) 1#32) 4#32))
  iapply Hk
  isplitl [Hx]; · iexact Hx
  isplitl [Hg]; · iexact Hg
  isplitl [Hl]; · iexact Hl
  isplitl [Hcs]; · iexact Hcs
  isplitl [HO]; · iexact HO
  iexact Hs'

set_option maxHeartbeats 800000 in
/-- The seventh piece sends that share and computes the device's own. -/
theorem run_part7 {Q : _ → sProp 𝕄} (v191 : BitVec 32) :
    iprop(records A K ∗ owns (c : Thread nD τ) xM fullShare (A.x c) ∗ owns (c : Thread nD τ) gwM fullShare (gates A c) ∗ owns (c : Thread nD τ) (slot stM 1 i1) fullShare (sentTo A c (peer c 1)) ∗ (∃ X, owns ((peer c 1) : Thread nD τ) (slot rsM 3 i3) fullShare X) ∗ due' c ((debts c).drop 5) ∗ tok c 1 0 ∗ tok (peer c 1) 6 0)
      ⊢ iprop((iprop(owns (c : Thread nD τ) xM fullShare (A.x c) ∗ owns (c : Thread nD τ) gwM fullShare (gates A c) ∗ owns (c : Thread nD τ) (slot stM 1 i1) fullShare.left (sentTo A c (peer c 1)) ∗ cred (tallyAt (kcell (c, 1)) () N) ∗ due' c ((debts c).drop 6)) -∗ Q (mine A c))
        -∗ wp frame (wpE (defs₀ (F := F)) 𝒱₀ (c : Thread nD τ) none) Set.univ
          (k0_part7 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) (experts A c) v191) Q) := by
  rw [k0_part7_eq_skeleton]; unfold k0_part7_skel
  simp only [semSignalWord, semWaitWord, Prog.lift, Prog.bind_op, Prog.bind_ret, Prog.pure_eq_ret, wp_deviceId]
  iintro ⟨#HR, Hx, Hg, Hs, Hd, HO, T1, T2⟩ Hk
  ihave Hs := (owns_halves (c : Thread nD τ) (slot stM 1 i1) fullShare (sentTo A c (peer c 1))).1 $$ Hs
  icases Hs with ⟨Hl, Hr⟩
  iapply (wp_send_copy A K c (dev6_eq c) 1 6 (by decide) (by decide) ((debts c).drop 6) s_rs_1 r_rs_3 (src := slot stM 1 i1) (dst := slot rsM 3 i3) (amount_slot rsM 3 i3 _) fullShare.right (sentTo A c (peer c 1)) rfl (by show owns _ _ _ _ = _; rw [peer_13])) $$ [Hr Hd HO T1 T2]
  · isplitr; · iexact HR
    isplitl [Hr]; · iexact Hr
    isplitl [Hd]; · iexact Hd
    isplitl [HO]; · iexact HO
    isplitl [T1]; · iexact T1
    iexact T2
  iintro ⟨Hcs, HO⟩
  iapply (wp_load_tok A c c (off6_0 c)) $$ Hx; iintro Hx
  iapply (wp_load_gate A c c 0 (off7_0 c)) $$ Hg; iintro Hg
  iapply (wp_load_gate A c c 1 (off8_0 c)) $$ Hg; iintro Hg
  iapply (wp_load_gate A c c 2 (off9_0 c)) $$ Hg; iintro Hg
  iapply (wp_load_gate A c c 3 (off10_0 c)) $$ Hg; iintro Hg
  rw [wp_ret]; imodintro
  change Entails' _ (Q (mine A c))
  iapply Hk
  isplitl [Hx]; · iexact Hx
  isplitl [Hg]; · iexact Hg
  isplitl [Hl]; · iexact Hl
  isplitl [Hcs]; · iexact Hcs
  iexact HO

set_option maxHeartbeats 800000 in
/-- The eighth piece adds the neighbours' shares. -/
theorem run_part8 {Q : _ → sProp 𝕄} (v148 v191 : BitVec 32) :
    iprop(records A K ∗ levAts L lv ∗ cred (tallyAt (kcell (c, 6)) () N) ∗ cred (tallyAt (kcell (c, 4)) () N) ∗ pos c 6 ∗ pos c 4 ∗ due' c ((debts c).drop 6) ∗ (∃ X, owns ((c) : Thread nD τ) p3M fullShare X))
      ⊢ iprop((iprop(due' c ((debts c).drop 6) ∗ semVal (kcell (c, 6)) 0 ∗ semVal (kcell (c, 4)) 0 ∗ owns (c : Thread nD τ) (slot rsM 3 i3) fullShare (sentTo A (peer c 3) c) ∗ owns (c : Thread nD τ) (slot rsM 1 i1) fullShare (sentTo A (peer c 1) c) ∗ owns (c : Thread nD τ) p3M fullShare (partSent A c)) -∗ Q (⟨part A c, Scalar.remsi (Scalar.addi (me c) 2#32) 4#32⟩))
        -∗ wp frame (wpE (defs₀ (F := F)) 𝒱₀ (c : Thread nD τ) none) Set.univ
          (k0_part8 (F := F) xM (hw _) wM (hw _) iM (hw _) eM (hw _) oM (hw _) gwM (hw _) stM (hw _) rsM (hw _) redM (hw _) p3M (hw _) agM (hw _) cc0_scratch6 cc0_scratch7 cc0_scratch8 cc0_scratch9 (me c) v148 v191 (mine A c)) Q) := by
  rw [k0_part8_eq_skeleton]; unfold k0_part8_skel
  simp only [semSignalWord, semWaitWord, Prog.lift, Prog.bind_op, Prog.bind_ret, Prog.pure_eq_ret, wp_deviceId]
  iintro ⟨#HR, #HV, Hc6, Hc4, Hp6, Hp4, HO, ⟨%s, Hb⟩⟩ Hk
  iapply (wp_wait_copy A K c 6 (by decide) ((debts c).drop 6) (above_rs c) r_rs_3 (dst := slot rsM 3 i3) (credit_slot _ _ _)) $$ [Hc6 HO Hp6]
  · isplitr; · iexact HR
    isplitr; · iexact HV
    isplitl [Hc6]; · iexact Hc6
    isplitl [HO]; · iexact HO
    iexact Hp6
  iintro ⟨HO, Hz6, Hr3⟩
  ihave Hr3 := (Entails.of_eq (show pay A c 6 0 = owns (c : Thread nD τ) (slot rsM 3 i3) fullShare (sentTo A (peer c 3) c) from rfl)) $$ Hr3
  iapply (wp_wait_copy A K c 4 (by decide) ((debts c).drop 6) (above_rs c) r_rs_1 (dst := slot rsM 1 i1) (credit_slot _ _ _)) $$ [Hc4 HO Hp4]
  · isplitr; · iexact HR
    isplitr; · iexact HV
    isplitl [Hc4]; · iexact Hc4
    isplitl [HO]; · iexact HO
    iexact Hp4
  iintro ⟨HO, Hz4, Hr1⟩
  ihave Hr1 := (Entails.of_eq (show pay A c 4 0 = owns (c : Thread nD τ) (slot rsM 1 i1) fullShare (sentTo A (peer c 1) c) from rfl)) $$ Hr1
  iapply (wp_load_slot 𝒱₀ (c : Thread nD τ) (M := rsM) (h := i3)) $$ Hr3; iintro Hr3
  iapply (wp_load_slot 𝒱₀ (c : Thread nD τ) (M := rsM) (h := i1)) $$ Hr1; iintro Hr1
  iapply (wp_load_all 𝒱₀ (c : Thread nD τ) (m := p3M) hz2) $$ Hb; iintro Hb
  iapply (wp_store_all 𝒱₀ (c : Thread nD τ) (m := p3M) hz2) $$ Hb; iintro Hb
  rw [show k0_pay18 (mine A c) (raise (sentTo A (peer c 3) c)) (raise (sentTo A (peer c 1) c)) = partSent A c from rfl]
  rw [wp_ret]; imodintro
  change Entails' _ (Q (⟨part A c, Scalar.remsi (Scalar.addi (me c) 2#32) 4#32⟩))
  iapply Hk
  isplitl [HO]; · iexact HO
  isplitl [Hz6]; · iexact Hz6
  isplitl [Hz4]; · iexact Hz4
  isplitl [Hr3]; · iexact Hr3
  isplitl [Hr1]; · iexact Hr1
  iexact Hb

set_option maxHeartbeats 800000 in
/-- The ninth piece sends that sum across the ring, adds the last share, and stores the device's own rows. -/
theorem run_part9 {Q : _ → sProp 𝕄} (v105 v289 : BitVec 32) (X : S512x512.Idx → Elt F .f32) :
    iprop(records A K ∗ levAts L lv ∗ owns (c : Thread nD τ) p3M fullShare (partSent A c) ∗ (∃ X, owns ((peer c 2) : Thread nD τ) (slot agM 2 i2) fullShare X) ∗ due' c ((debts c).drop 6) ∗ tok c 8 0 ∗ tok (peer c 2) 11 0 ∗ cred (tallyAt (kcell (c, 5)) () N) ∗ pos c 5 ∗ owns (c : Thread nD τ) oM fullShare (X) ∗ (∃ X, owns ((c) : Thread nD τ) redM fullShare X))
      ⊢ iprop((iprop(cred (tallyAt (kcell (c, 8)) () N) ∗ due' c ((debts c).drop 7) ∗ semVal (kcell (c, 5)) 0 ∗ owns (c : Thread nD τ) (slot rsM 2 i2) fullShare (sentTo A (peer c 2) c) ∗ owns (c : Thread nD τ) oM fullShare ((outRect c).overlay X (full A c)) ∗ owns (c : Thread nD τ) redM fullShare (fullSent A c)) -∗ Q (Scalar.remsi (Scalar.addi (me c) 3#32) 4#32))
        -∗ wp frame (wpE (defs₀ (F := F)) 𝒱₀ (c : Thread nD τ) none) Set.univ
          (k0_part9 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) v105 (part A c) v289) Q) := by
  rw [k0_part9_eq_skeleton]; unfold k0_part9_skel
  simp only [semSignalWord, semWaitWord, Prog.lift, Prog.bind_op, Prog.bind_ret, Prog.pure_eq_ret, wp_deviceId]
  iintro ⟨#HR, #HV, Hb, Hd, HO, T1, T2, Hc5, Hp5, Ho, ⟨%s, Hr⟩⟩ Hk
  iapply (wp_send_copy A K c (dev7_eq c) 8 11 (by decide) (by decide) ((debts c).drop 7) s_ag_2 r_ag_2 (src := p3M) (dst := slot agM 2 i2) (amount_slot agM 2 i2 _) fullShare (partSent A c) rfl (by show owns _ _ _ _ = _; rw [peer_22])) $$ [Hb Hd HO T1 T2]
  · isplitr; · iexact HR
    isplitl [Hb]; · iexact Hb
    isplitl [Hd]; · iexact Hd
    isplitl [HO]; · iexact HO
    isplitl [T1]; · iexact T1
    iexact T2
  iintro ⟨Hcs, HO⟩
  iapply (wp_wait_copy A K c 5 (by decide) ((debts c).drop 7) (above_rs' c) r_rs_2 (dst := slot rsM 2 i2) (credit_slot _ _ _)) $$ [Hc5 HO Hp5]
  · isplitr; · iexact HR
    isplitr; · iexact HV
    isplitl [Hc5]; · iexact Hc5
    isplitl [HO]; · iexact HO
    iexact Hp5
  iintro ⟨HO, Hz5, Hr2⟩
  ihave Hr2 := (Entails.of_eq (show pay A c 5 0 = owns (c : Thread nD τ) (slot rsM 2 i2) fullShare (sentTo A (peer c 2) c) from rfl)) $$ Hr2
  iapply (wp_load_slot 𝒱₀ (c : Thread nD τ) (M := rsM) (h := i2)) $$ Hr2; iintro Hr2
  rw [show k0_pay19 (part A c) (raise (sentTo A (peer c 2) c)) = full A c from rfl]
  iapply (wp_load_at 𝒱₀ (c : Thread nD τ) (m := oM) (off11_0 c) (out_inb c)) $$ Ho; iintro Ho
  iapply (wp_store_out c c (off11_0 c)) $$ Ho; iintro Ho
  iapply (wp_load_all 𝒱₀ (c : Thread nD τ) (m := redM) hz2) $$ Hr; iintro Hr
  iapply (wp_store_all 𝒱₀ (c : Thread nD τ) (m := redM) hz2) $$ Hr; iintro Hr
  rw [show k0_pay20 (part A c) (raise (sentTo A (peer c 2) c)) = fullSent A c from rfl]
  rw [wp_ret]; imodintro
  change Entails' _ (Q (Scalar.remsi (Scalar.addi (me c) 3#32) 4#32))
  iapply Hk
  isplitl [Hcs]; · iexact Hcs
  isplitl [HO]; · iexact HO
  isplitl [Hz5]; · iexact Hz5
  isplitl [Hr2]; · iexact Hr2
  isplitl [Ho]; · iexact Ho
  iexact Hr

set_option maxHeartbeats 800000 in
/-- The tenth piece sends the device's own rows to its neighbours and receives the third peer's. -/
theorem run_part10 {Q : _ → sProp 𝕄} (v318 : BitVec 32) :
    iprop(records A K ∗ levAts L lv ∗ owns (c : Thread nD τ) redM fullShare (fullSent A c) ∗ (∃ X, owns ((peer c 3) : Thread nD τ) (slot agM 1 i1) fullShare X) ∗ (∃ X, owns ((peer c 1) : Thread nD τ) (slot agM 3 i3) fullShare X) ∗ due' c ((debts c).drop 7) ∗ tok c 9 0 ∗ tok (peer c 3) 10 0 ∗ tok c 7 0 ∗ tok (peer c 1) 12 0 ∗ cred (tallyAt (kcell (c, 12)) () N) ∗ pos c 12)
      ⊢ iprop((iprop(cred (tallyAt (kcell (c, 9)) () N) ∗ cred (tallyAt (kcell (c, 7)) () N) ∗ due' c ((debts c).drop 9) ∗ semVal (kcell (c, 12)) 0 ∗ owns (c : Thread nD τ) (slot agM 3 i3) fullShare (fullSent A (peer c 3))) -∗ Q (⟨k0_pay21 (raise (fullSent A (peer c 3))), Scalar.muli (Scalar.remsi (Scalar.addi (me c) 3#32) 4#32) 128#32⟩))
        -∗ wp frame (wpE (defs₀ (F := F)) 𝒱₀ (c : Thread nD τ) none) Set.univ
          (k0_part10 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) v318) Q) := by
  rw [k0_part10_eq_skeleton]; unfold k0_part10_skel
  simp only [semSignalWord, semWaitWord, Prog.lift, Prog.bind_op, Prog.bind_ret, Prog.pure_eq_ret, wp_deviceId]
  iintro ⟨#HR, #HV, Hr, Hd1, Hd3, HO, T1, T2, T3, T4, Hc12, Hp12⟩ Hk
  ihave Hr := (owns_halves (c : Thread nD τ) redM fullShare (fullSent A c)).1 $$ Hr
  icases Hr with ⟨Hl, Hr⟩
  iapply (wp_send_copy A K c (dev8_eq c) 9 10 (by decide) (by decide) ((debts c).drop 8) s_ag_3 r_ag_1 (src := redM) (dst := slot agM 1 i1) (amount_slot agM 1 i1 _) fullShare.left (fullSent A c) rfl (by show owns _ _ _ _ = _; rw [peer_31])) $$ [Hl Hd1 HO T1 T2]
  · isplitr; · iexact HR
    isplitl [Hl]; · iexact Hl
    isplitl [Hd1]; · iexact Hd1
    isplitl [HO]; · iexact HO
    isplitl [T1]; · iexact T1
    iexact T2
  iintro ⟨Hcs, HO⟩
  iapply (wp_send_copy A K c (dev9_eq c) 7 12 (by decide) (by decide) ((debts c).drop 9) s_ag_1 r_ag_3 (src := redM) (dst := slot agM 3 i3) (amount_slot agM 3 i3 _) fullShare.right (fullSent A c) rfl (by show owns _ _ _ _ = _; rw [peer_13])) $$ [Hr Hd3 HO T3 T4]
  · isplitr; · iexact HR
    isplitl [Hr]; · iexact Hr
    isplitl [Hd3]; · iexact Hd3
    isplitl [HO]; · iexact HO
    isplitl [T3]; · iexact T3
    iexact T4
  iintro ⟨Hcs', HO⟩
  iapply (wp_wait_copy A K c 12 (by decide) ((debts c).drop 9) (above_all c _) r_ag_3 (dst := slot agM 3 i3) (credit_slot _ _ _)) $$ [Hc12 HO Hp12]
  · isplitr; · iexact HR
    isplitr; · iexact HV
    isplitl [Hc12]; · iexact Hc12
    isplitl [HO]; · iexact HO
    iexact Hp12
  iintro ⟨HO, Hz12, Hg3⟩
  ihave Hg3 := (Entails.of_eq (show pay A c 12 0 = owns (c : Thread nD τ) (slot agM 3 i3) fullShare (fullSent A (peer c 3)) from rfl)) $$ Hg3
  iapply (wp_load_slot 𝒱₀ (c : Thread nD τ) (M := agM) (h := i3)) $$ Hg3; iintro Hg3
  rw [wp_ret]; imodintro
  change Entails' _ (Q (⟨k0_pay21 (raise (fullSent A (peer c 3))), Scalar.muli (Scalar.remsi (Scalar.addi (me c) 3#32) 4#32) 128#32⟩))
  iapply Hk
  isplitl [Hcs]; · iexact Hcs
  isplitl [Hcs']; · iexact Hcs'
  isplitl [HO]; · iexact HO
  isplitl [Hz12]; · iexact Hz12
  iexact Hg3

set_option maxHeartbeats 800000 in
/-- The eleventh piece stores the third peer's rows, receives and stores the first peer's, and receives the second peer's. -/
theorem run_part11 {Q : _ → sProp 𝕄} (v289 v318 v348 : BitVec 32) (X : S512x512.Idx → Elt F .f32) :
    iprop(records A K ∗ levAts L lv ∗ due' c ((debts c).drop 9) ∗ owns (c : Thread nD τ) oM fullShare (X) ∗ cred (tallyAt (kcell (c, 10)) () N) ∗ pos c 10 ∗ cred (tallyAt (kcell (c, 11)) () N) ∗ pos c 11)
      ⊢ iprop((iprop(due' c ((debts c).drop 9) ∗ owns (c : Thread nD τ) oM fullShare ((outRect (peer c 1)).overlay ((outRect (peer c 3)).overlay (X) (k0_pay21 (raise (fullSent A (peer c 3))))) (k0_pay22 (raise (fullSent A (peer c 1))))) ∗ semVal (kcell (c, 10)) 0 ∗ owns (c : Thread nD τ) (slot agM 1 i1) fullShare (fullSent A (peer c 1)) ∗ semVal (kcell (c, 11)) 0 ∗ owns (c : Thread nD τ) (slot agM 2 i2) fullShare (partSent A (peer c 2))) -∗ Q (⟨Scalar.remsi (Scalar.addi (me c) 2#32) 4#32, k0_pay23 (raise (partSent A (peer c 2)))⟩))
        -∗ wp frame (wpE (defs₀ (F := F)) 𝒱₀ (c : Thread nD τ) none) Set.univ
          (k0_part11 (F := F) xM (hw _) wM (hw _) iM (hw _) eM (hw _) oM (hw _) gwM (hw _) stM (hw _) rsM (hw _) redM (hw _) p3M (hw _) agM (hw _) cc0_scratch6 cc0_scratch7 cc0_scratch8 cc0_scratch9 c (me c) v289 v318 (k0_pay21 (raise (fullSent A (peer c 3)))) v348) Q) := by
  rw [k0_part11_eq_skeleton]; unfold k0_part11_skel
  simp only [semSignalWord, semWaitWord, Prog.lift, Prog.bind_op, Prog.bind_ret, Prog.pure_eq_ret, wp_deviceId]
  iintro ⟨#HR, #HV, HO, Ho, Hc10, Hp10, Hc11, Hp11⟩ Hk
  iapply (wp_load_at 𝒱₀ (c : Thread nD τ) (m := oM) (off12_3 c) (out_inb (peer c 3))) $$ Ho; iintro Ho
  iapply (wp_store_out c (peer c 3) (off12_3 c)) $$ Ho; iintro Ho
  iapply (wp_wait_copy A K c 10 (by decide) ((debts c).drop 9) (above_all c _) r_ag_1 (dst := slot agM 1 i1) (credit_slot _ _ _)) $$ [Hc10 HO Hp10]
  · isplitr; · iexact HR
    isplitr; · iexact HV
    isplitl [Hc10]; · iexact Hc10
    isplitl [HO]; · iexact HO
    iexact Hp10
  iintro ⟨HO, Hz10, Hg1⟩
  ihave Hg1 := (Entails.of_eq (show pay A c 10 0 = owns (c : Thread nD τ) (slot agM 1 i1) fullShare (fullSent A (peer c 1)) from rfl)) $$ Hg1
  iapply (wp_load_slot 𝒱₀ (c : Thread nD τ) (M := agM) (h := i1)) $$ Hg1; iintro Hg1
  iapply (wp_load_at 𝒱₀ (c : Thread nD τ) (m := oM) (off12_1 c) (out_inb (peer c 1))) $$ Ho; iintro Ho
  iapply (wp_store_out c (peer c 1) (off12_1 c)) $$ Ho; iintro Ho
  iapply (wp_wait_copy A K c 11 (by decide) ((debts c).drop 9) (above_all c _) r_ag_2 (dst := slot agM 2 i2) (credit_slot _ _ _)) $$ [Hc11 HO Hp11]
  · isplitr; · iexact HR
    isplitr; · iexact HV
    isplitl [Hc11]; · iexact Hc11
    isplitl [HO]; · iexact HO
    iexact Hp11
  iintro ⟨HO, Hz11, Hg2⟩
  ihave Hg2 := (Entails.of_eq (show pay A c 11 0 = owns (c : Thread nD τ) (slot agM 2 i2) fullShare (partSent A (peer c 2)) from rfl)) $$ Hg2
  iapply (wp_load_slot 𝒱₀ (c : Thread nD τ) (M := agM) (h := i2)) $$ Hg2; iintro Hg2
  rw [wp_ret]; imodintro
  change Entails' _ (Q (⟨Scalar.remsi (Scalar.addi (me c) 2#32) 4#32, k0_pay23 (raise (partSent A (peer c 2)))⟩))
  iapply Hk
  isplitl [HO]; · iexact HO
  isplitl [Ho]; · iexact Ho
  isplitl [Hz10]; · iexact Hz10
  isplitl [Hg1]; · iexact Hg1
  isplitl [Hz11]; · iexact Hz11
  iexact Hg2

set_option maxHeartbeats 800000 in
/-- The twelfth piece stores the rows of the device across the ring and takes back the shares it sent. -/
theorem run_part12 {Q : _ → sProp 𝕄} (v372 : BitVec 32) (X : S512x512.Idx → Elt F .f32) :
    iprop(records A K ∗ levAts L lv ∗ due' c ((debts c).drop 9) ∗ owns (c : Thread nD τ) oM fullShare (X) ∗ owns (c : Thread nD τ) (slot stM 2 i2) fullShare.left (sentTo A c (peer c 2)) ∗ cred (tallyAt (kcell (c, 1)) () N) ∗ pos c 1 ∗ cred (tallyAt (kcell (c, 2)) () N) ∗ pos c 2 ∗ cred (tallyAt (kcell (c, 3)) () N) ∗ pos c 3)
      ⊢ iprop((iprop(due' c ((debts c).drop 9) ∗ owns (c : Thread nD τ) oM fullShare ((outRect (peer c 2)).overlay X (k0_pay24 (k0_pay23 (raise (partSent A (peer c 2)))) (raise (sentTo A c (peer c 2))))) ∗ owns (c : Thread nD τ) (slot stM 2 i2) fullShare.left (sentTo A c (peer c 2)) ∗ semVal (kcell (c, 1)) 0 ∗ owns (c : Thread nD τ) (slot stM 1 i1) fullShare.right (sentTo A c (peer c 1)) ∗ semVal (kcell (c, 2)) 0 ∗ owns (c : Thread nD τ) (slot stM 2 i2) fullShare.right (sentTo A c (peer c 2)) ∗ semVal (kcell (c, 3)) 0 ∗ owns (c : Thread nD τ) (slot stM 3 i3) fullShare.right (sentTo A c (peer c 3))) -∗ Q (⟨⟩))
        -∗ wp frame (wpE (defs₀ (F := F)) 𝒱₀ (c : Thread nD τ) none) Set.univ
          (k0_part12 (F := F) xM (hw _) wM (hw _) iM (hw _) eM (hw _) oM (hw _) gwM (hw _) stM (hw _) rsM (hw _) redM (hw _) p3M (hw _) agM (hw _) cc0_scratch6 cc0_scratch7 cc0_scratch8 cc0_scratch9 c v372 (k0_pay23 (raise (partSent A (peer c 2))))) Q) := by
  rw [k0_part12_eq_skeleton]; unfold k0_part12_skel
  simp only [semSignalWord, semWaitWord, Prog.lift, Prog.bind_op, Prog.bind_ret, Prog.pure_eq_ret, wp_deviceId]
  iintro ⟨#HR, #HV, HO, Ho, Hl, Hc1, Hp1, Hc2, Hp2, Hc3, Hp3⟩ Hk
  iapply (wp_load_slot 𝒱₀ (c : Thread nD τ) (M := stM) (h := i2)) $$ Hl; iintro Hl
  iapply (wp_load_at 𝒱₀ (c : Thread nD τ) (m := oM) (off12_2 c) (out_inb (peer c 2))) $$ Ho; iintro Ho
  iapply (wp_store_out c (peer c 2) (off12_2 c)) $$ Ho; iintro Ho
  iapply (wp_wait_copy A K c 2 (by decide) ((debts c).drop 9) (above_all c _) s_rs_2 (dst := slot stM 2 i2) (credit_slot _ _ _)) $$ [Hc2 HO Hp2]
  · isplitr; · iexact HR
    isplitr; · iexact HV
    isplitl [Hc2]; · iexact Hc2
    isplitl [HO]; · iexact HO
    iexact Hp2
  iintro ⟨HO, Hz2, Hs2⟩
  ihave Hs2 := (Entails.of_eq (show pay A c 2 0 = owns (c : Thread nD τ) (slot stM 2 i2) fullShare.right (sentTo A c (peer c 2)) from rfl)) $$ Hs2
  iapply (wp_wait_copy A K c 3 (by decide) ((debts c).drop 9) (above_all c _) s_rs_3 (dst := slot stM 3 i3) (credit_slot _ _ _)) $$ [Hc3 HO Hp3]
  · isplitr; · iexact HR
    isplitr; · iexact HV
    isplitl [Hc3]; · iexact Hc3
    isplitl [HO]; · iexact HO
    iexact Hp3
  iintro ⟨HO, Hz3, Hs3⟩
  ihave Hs3 := (Entails.of_eq (show pay A c 3 0 = owns (c : Thread nD τ) (slot stM 3 i3) fullShare.right (sentTo A c (peer c 3)) from rfl)) $$ Hs3
  iapply (wp_wait_copy A K c 1 (by decide) ((debts c).drop 9) (above_all c _) s_rs_1 (dst := slot stM 1 i1) (credit_slot _ _ _)) $$ [Hc1 HO Hp1]
  · isplitr; · iexact HR
    isplitr; · iexact HV
    isplitl [Hc1]; · iexact Hc1
    isplitl [HO]; · iexact HO
    iexact Hp1
  iintro ⟨HO, Hz1, Hs1⟩
  ihave Hs1 := (Entails.of_eq (show pay A c 1 0 = owns (c : Thread nD τ) (slot stM 1 i1) fullShare.right (sentTo A c (peer c 1)) from rfl)) $$ Hs1
  rw [wp_ret]; imodintro
  change Entails' _ (Q (⟨⟩))
  iapply Hk
  isplitl [HO]; · iexact HO
  isplitl [Ho]; · iexact Ho
  isplitl [Hl]; · iexact Hl
  isplitl [Hz1]; · iexact Hz1
  isplitl [Hs1]; · iexact Hs1
  isplitl [Hz2]; · iexact Hz2
  isplitl [Hs2]; · iexact Hs2
  isplitl [Hz3]; · iexact Hz3
  iexact Hs3

/-- The four blocks of rows that the body stores are the whole result. -/
theorem overlay_out (X : S512x512.Idx → Elt F .f32) : (outRect (peer c 2)).overlay ((outRect (peer c 1)).overlay ((outRect (peer c 3)).overlay ((outRect c).overlay X (full A c)) (k0_pay21 (raise (fullSent A (peer c 3))))) (k0_pay22 (raise (fullSent A (peer c 1))))) (k0_pay24 (k0_pay23 (raise (partSent A (peer c 2)))) (raise (sentTo A c (peer c 2)))) = result A c := overlay_result A c X

/-- What one device holds when its body starts: its share of the exchange, its tickets, its blocks and its buffers. -/
def bodyIn (X : S512x512.Idx → Elt F .f32) : sProp 𝕄 :=
  iprop(records A K ∗ levAts L lv ∗ due' c ((debts c).drop 0) ∗ tok (peer c 1) 0 3 ∗ tok (peer c 2) 0 2 ∗ tok (peer c 3) 0 1 ∗ tok c 1 0 ∗ tok c 2 0 ∗ tok c 3 0 ∗ tok (peer c 3) 4 0 ∗ tok (peer c 2) 5 0 ∗ tok (peer c 1) 6 0 ∗ tok c 7 0 ∗ tok c 8 0 ∗ tok c 9 0 ∗ tok (peer c 3) 10 0 ∗ tok (peer c 2) 11 0 ∗ tok (peer c 1) 12 0 ∗ lend c 1 i1 ∗ lend c 2 i2 ∗ lend c 3 i3 ∗ cred (tallyAt (kcell (c, 0)) () 3) ∗ cred (tallyAt (kcell (c, 4)) () N) ∗ cred (tallyAt (kcell (c, 5)) () N) ∗ cred (tallyAt (kcell (c, 6)) () N) ∗ cred (tallyAt (kcell (c, 10)) () N) ∗ cred (tallyAt (kcell (c, 11)) () N) ∗ cred (tallyAt (kcell (c, 12)) () N) ∗ pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12 ∗ owns (c : Thread nD τ) xM fullShare (A.x c) ∗ owns (c : Thread nD τ) wM fullShare (A.w c) ∗ owns (c : Thread nD τ) iM fullShare (A.i c) ∗ owns (c : Thread nD τ) eM fullShare (A.e c) ∗ owns (c : Thread nD τ) oM fullShare (X) ∗ (∃ X, owns ((c) : Thread nD τ) gwM fullShare X) ∗ (∃ X, owns ((c) : Thread nD τ) (slot stM 1 i1) fullShare X) ∗ (∃ X, owns ((c) : Thread nD τ) (slot stM 2 i2) fullShare X) ∗ (∃ X, owns ((c) : Thread nD τ) (slot stM 3 i3) fullShare X) ∗ (∃ X, owns ((c) : Thread nD τ) redM fullShare X) ∗ (∃ X, owns ((c) : Thread nD τ) p3M fullShare X))

/-- What one device holds when its body ends: nothing owed, every semaphore at zero, and the result in place. -/
def bodyOut : sProp 𝕄 :=
  iprop(due' c ((debts c).drop 9) ∗ semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ owns (c : Thread nD τ) xM fullShare (A.x c) ∗ owns (c : Thread nD τ) wM fullShare (A.w c) ∗ owns (c : Thread nD τ) iM fullShare (A.i c) ∗ owns (c : Thread nD τ) eM fullShare (A.e c) ∗ owns (c : Thread nD τ) oM fullShare (result A c) ∗ (∃ X, owns ((c) : Thread nD τ) gwM fullShare X) ∗ (∃ X, owns ((c) : Thread nD τ) (slot stM 1 i1) fullShare X) ∗ (∃ X, owns ((c) : Thread nD τ) (slot stM 2 i2) fullShare X) ∗ (∃ X, owns ((c) : Thread nD τ) (slot stM 3 i3) fullShare X) ∗ (∃ X, owns ((c) : Thread nD τ) (slot rsM 1 i1) fullShare X) ∗ (∃ X, owns ((c) : Thread nD τ) (slot rsM 2 i2) fullShare X) ∗ (∃ X, owns ((c) : Thread nD τ) (slot rsM 3 i3) fullShare X) ∗ (∃ X, owns ((c) : Thread nD τ) (slot agM 1 i1) fullShare X) ∗ (∃ X, owns ((c) : Thread nD τ) (slot agM 2 i2) fullShare X) ∗ (∃ X, owns ((c) : Thread nD τ) (slot agM 3 i3) fullShare X) ∗ (∃ X, owns ((c) : Thread nD τ) redM fullShare X) ∗ (∃ X, owns ((c) : Thread nD τ) p3M fullShare X))

set_option maxHeartbeats 3200000 in
set_option maxRecDepth 8000 in
/-- One device's body runs from what it holds at the start to what it holds at the end. -/
theorem run_body {Q : PUnit → sProp 𝕄} (X : S512x512.Idx → Elt F .f32) :
    bodyIn A K c X
      ⊢ iprop((bodyOut A c -∗ Q ⟨⟩)
        -∗ wp frame (wpE (defs₀ (F := F)) 𝒱₀ (c : Thread nD τ) none) Set.univ (cc0_body (F := F) xM (hw _) wM (hw _) iM (hw _) eM (hw _) oM (hw _) gwM (hw _) stM (hw _) rsM (hw _) redM (hw _) p3M (hw _) agM (hw _) cc0_scratch6 cc0_scratch7 cc0_scratch8 cc0_scratch9) Q) := by
  rw [cc0_body_eq_skeleton]; unfold cc0_body_skel bodyIn bodyOut
  iintro ⟨#HR, #HV, HO, T01, T02, T03, T1, T2, T3, T4, T5, T6, T7, T8, T9, T10, T11, T12, L1, L2, L3, Hb, Hc4, Hc5, Hc6, Hc10, Hc11, Hc12, Q0, Q1, Q2, Q3, Q4, Q5, Q6, Q7, Q8, Q9, Q10, Q11, Q12, Hx, Hw, Hi, He, Ho, Hg, Hs1, Hs2, Hs3, Hd, Hq⟩ Hk
  rw [wp_bind]
  iapply (run_part1 A K c) $$ [HO T01 T02 T03 L1 L2 L3 Hx Hw]
  · isplitr; · iexact HR
    isplitl [HO]; · iexact HO
    isplitl [T01]; · iexact T01
    isplitl [T02]; · iexact T02
    isplitl [T03]; · iexact T03
    isplitl [L1]; · iexact L1
    isplitl [L2]; · iexact L2
    isplitl [L3]; · iexact L3
    isplitl [Hx]; · iexact Hx
    iexact Hw
  iintro ⟨HO, Hx, Hw⟩
  dsimp only
  rw [wp_bind]
  iapply (run_part2 A c) $$ [Hi]
  · iexact Hi
  iintro Hi
  dsimp only
  rw [wp_bind]
  iapply (run_part3 A c) $$ [Hg He Hx]
  · isplitl [Hg]; · iexact Hg
    isplitl [He]; · iexact He
    iexact Hx
  iintro ⟨Hg, He, Hx⟩
  dsimp only
  rw [wp_bind]
  iapply (run_part4 A K c _ _) $$ [Hg Hs2 Hb HO Q0 T2 T5]
  · isplitr; · iexact HR
    isplitr; · iexact HV
    isplitl [Hg]; · iexact Hg
    isplitl [Hs2]; · iexact Hs2
    isplitl [Hb]; · iexact Hb
    isplitl [HO]; · iexact HO
    isplitl [Q0]; · iexact Q0
    isplitl [T2]; · iexact T2
    iexact T5
  iintro ⟨Hg, Hl2, Hz0, P1, D2, P3, Hc2, HO⟩
  dsimp only
  unfold lend
  icases P1 with ⟨R1, D1⟩
  icases P3 with ⟨R3, D3⟩
  rw [wp_bind]
  iapply (run_part5 A c _) $$ [Hx Hg Hs3]
  · isplitl [Hx]; · iexact Hx
    isplitl [Hg]; · iexact Hg
    iexact Hs3
  iintro ⟨Hx, Hg, Hs3⟩
  dsimp only
  rw [wp_bind]
  iapply (run_part6 A K c) $$ [Hx Hg Hs3 R3 HO T3 T4 Hs1]
  · isplitr; · iexact HR
    isplitl [Hx]; · iexact Hx
    isplitl [Hg]; · iexact Hg
    isplitl [Hs3]; · iexact Hs3
    isplitl [R3]; · iexact R3
    isplitl [HO]; · iexact HO
    isplitl [T3]; · iexact T3
    isplitl [T4]; · iexact T4
    iexact Hs1
  iintro ⟨Hx, Hg, Hl3, Hc3, HO, Hs1⟩
  dsimp only
  rw [wp_bind]
  iapply (run_part7 A K c _) $$ [Hx Hg Hs1 R1 HO T1 T6]
  · isplitr; · iexact HR
    isplitl [Hx]; · iexact Hx
    isplitl [Hg]; · iexact Hg
    isplitl [Hs1]; · iexact Hs1
    isplitl [R1]; · iexact R1
    isplitl [HO]; · iexact HO
    isplitl [T1]; · iexact T1
    iexact T6
  iintro ⟨Hx, Hg, Hl1, Hc1, HO⟩
  dsimp only
  rw [wp_bind]
  iapply (run_part8 A K c _ _) $$ [Hc6 Hc4 Q6 Q4 HO Hq]
  · isplitr; · iexact HR
    isplitr; · iexact HV
    isplitl [Hc6]; · iexact Hc6
    isplitl [Hc4]; · iexact Hc4
    isplitl [Q6]; · iexact Q6
    isplitl [Q4]; · iexact Q4
    isplitl [HO]; · iexact HO
    iexact Hq
  iintro ⟨HO, Hz6, Hz4, Hr3, Hr1, Hq⟩
  dsimp only
  rw [wp_bind]
  iapply (run_part9 A K c _ _ X) $$ [Hq D2 HO T8 T11 Hc5 Q5 Ho Hd]
  · isplitr; · iexact HR
    isplitr; · iexact HV
    isplitl [Hq]; · iexact Hq
    isplitl [D2]; · iexact D2
    isplitl [HO]; · iexact HO
    isplitl [T8]; · iexact T8
    isplitl [T11]; · iexact T11
    isplitl [Hc5]; · iexact Hc5
    isplitl [Q5]; · iexact Q5
    isplitl [Ho]; · iexact Ho
    iexact Hd
  iintro ⟨Hc8, HO, Hz5, Hr2, Ho, Hd⟩
  dsimp only
  rw [wp_bind]
  iapply (run_part10 A K c _) $$ [Hd D3 D1 HO T9 T10 T7 T12 Hc12 Q12]
  · isplitr; · iexact HR
    isplitr; · iexact HV
    isplitl [Hd]; · iexact Hd
    isplitl [D3]; · iexact D3
    isplitl [D1]; · iexact D1
    isplitl [HO]; · iexact HO
    isplitl [T9]; · iexact T9
    isplitl [T10]; · iexact T10
    isplitl [T7]; · iexact T7
    isplitl [T12]; · iexact T12
    isplitl [Hc12]; · iexact Hc12
    iexact Q12
  iintro ⟨Hc9, Hc7, HO, Hz12, Ha3⟩
  dsimp only
  rw [wp_bind]
  iapply (run_part11 A K c _ _ _ _) $$ [HO Ho Hc10 Q10 Hc11 Q11]
  · isplitr; · iexact HR
    isplitr; · iexact HV
    isplitl [HO]; · iexact HO
    isplitl [Ho]; · iexact Ho
    isplitl [Hc10]; · iexact Hc10
    isplitl [Q10]; · iexact Q10
    isplitl [Hc11]; · iexact Hc11
    iexact Q11
  iintro ⟨HO, Ho, Hz10, Ha1, Hz11, Ha2⟩
  dsimp only
  rw [wp_bind]
  iapply (run_part12 A K c _ _) $$ [HO Ho Hl2 Hc1 Q1 Hc2 Q2 Hc3 Q3]
  · isplitr; · iexact HR
    isplitr; · iexact HV
    isplitl [HO]; · iexact HO
    isplitl [Ho]; · iexact Ho
    isplitl [Hl2]; · iexact Hl2
    isplitl [Hc1]; · iexact Hc1
    isplitl [Q1]; · iexact Q1
    isplitl [Hc2]; · iexact Hc2
    isplitl [Q2]; · iexact Q2
    isplitl [Hc3]; · iexact Hc3
    iexact Q3
  iintro ⟨HO, Ho, Hl2, Hz1, Hs1, Hz2, Hs2, Hz3, Hs3⟩
  dsimp only
  simp only [Prog.lift, Prog.bind_op, Prog.bind_ret, Prog.pure_eq_ret]
  iapply (wp_wait_copy A K c 8 (by decide) ((debts c).drop 9) (above_all c _) s_ag_2 (dst := p3M) credit_p3) $$ [Hc8 HO Q8]
  · isplitr; · iexact HR
    isplitr; · iexact HV
    isplitl [Hc8]; · iexact Hc8
    isplitl [HO]; · iexact HO
    iexact Q8
  iintro ⟨HO, Hz8, Hq⟩
  ihave Hq := (Entails.of_eq (show pay A c 8 0 = owns (c : Thread nD τ) p3M fullShare (partSent A c) from rfl)) $$ Hq
  iapply (wp_wait_copy A K c 9 (by decide) ((debts c).drop 9) (above_all c _) s_ag_3 (dst := redM) credit_red) $$ [Hc9 HO Q9]
  · isplitr; · iexact HR
    isplitr; · iexact HV
    isplitl [Hc9]; · iexact Hc9
    isplitl [HO]; · iexact HO
    iexact Q9
  iintro ⟨HO, Hz9, Hd⟩
  ihave Hd := (Entails.of_eq (show pay A c 9 0 = owns (c : Thread nD τ) redM fullShare.left (fullSent A c) from rfl)) $$ Hd
  iapply (wp_wait_copy A K c 7 (by decide) ((debts c).drop 9) (above_all c _) s_ag_1 (dst := redM) credit_red) $$ [Hc7 HO Q7]
  · isplitr; · iexact HR
    isplitr; · iexact HV
    isplitl [Hc7]; · iexact Hc7
    isplitl [HO]; · iexact HO
    iexact Q7
  iintro ⟨HO, Hz7, Hd'⟩
  ihave Hd' := (Entails.of_eq (show pay A c 7 0 = owns (c : Thread nD τ) redM fullShare.right (fullSent A c) from rfl)) $$ Hd'
  ihave Hf1 := (owns_halves (c : Thread nD τ) (slot stM 1 i1) fullShare (sentTo A c (peer c 1))).2 $$ [Hl1 Hs1]
  · isplitl [Hl1]; · iexact Hl1
    iexact Hs1
  ihave Hf2 := (owns_halves (c : Thread nD τ) (slot stM 2 i2) fullShare (sentTo A c (peer c 2))).2 $$ [Hl2 Hs2]
  · isplitl [Hl2]; · iexact Hl2
    iexact Hs2
  ihave Hf3 := (owns_halves (c : Thread nD τ) (slot stM 3 i3) fullShare (sentTo A c (peer c 3))).2 $$ [Hl3 Hs3]
  · isplitl [Hl3]; · iexact Hl3
    iexact Hs3
  ihave He' := (owns_halves (c : Thread nD τ) redM fullShare (fullSent A c)).2 $$ [Hd Hd']
  · isplitl [Hd]; · iexact Hd
    iexact Hd'
  rw [overlay_out, wp_ret]; imodintro
  iapply Hk
  isplitl [HO]; · iexact HO
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hx]; · iexact Hx
  isplitl [Hw]; · iexact Hw
  isplitl [Hi]; · iexact Hi
  isplitl [He]; · iexact He
  isplitl [Ho]; · iexact Ho
  isplitl [Hg]; · iexists _; iexact Hg
  isplitl [Hf1]; · iexists _; iexact Hf1
  isplitl [Hf2]; · iexists _; iexact Hf2
  isplitl [Hf3]; · iexists _; iexact Hf3
  isplitl [Hr1]; · iexists _; iexact Hr1
  isplitl [Hr2]; · iexists _; iexact Hr2
  isplitl [Hr3]; · iexists _; iexact Hr3
  isplitl [Ha1]; · iexists _; iexact Ha1
  isplitl [Ha2]; · iexists _; iexact Ha2
  isplitl [Ha3]; · iexists _; iexact Ha3
  isplitl [He']; · iexists _; iexact He'
  iexists _; iexact Hq

end Cert.Moe

end
-- ==== Proof.Stack.lean ====
/-
# A stack of four blocks, owned block by block

Owning a stack of four blocks of rows is owning each of its blocks: the stack splits into its blocks when a
device's body starts, and its blocks join again when the body ends.
-/
module

public import proofs.«01_k».proof.Proof.Owned

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

theorem slot_inb (t : Fin 4) : Slot t.val := by revert t; decide

/-- Block `t` of the stack as a rectangle. -/
abbrev blockRect (t : Fin 4) : Rect S4x128x512 := Rect.unit (s := S4x128x512) ![t.val, 0, 0] S1x128x512.size (slot_inb t)

/-- The block an index of the stack lies in. -/
def blockOf (j : S4x128x512.Idx) : Fin 4 := ⟨(j 0).val, (j 0).isLt⟩

/-- The index inside that block. -/
def inBlock (j : S4x128x512.Idx) : S1x128x512.Idx :=
  fun a => ⟨if a = 0 then 0 else (j a).val, by
    match a with
    | ⟨0, _⟩ => exact Nat.one_pos
    | ⟨1, _⟩ => exact (j 1).isLt
    | ⟨2, _⟩ => exact (j 2).isLt⟩

theorem blockRect_emb (j : S4x128x512.Idx) : (blockRect (blockOf j)).emb (inBlock j) = j := by
  funext a
  apply Fin.ext
  match a with
  | ⟨0, _⟩ => show (j 0).val + 1 * 0 = (j 0).val; omega
  | ⟨1, _⟩ => show 0 + 1 * (j 1).val = (j 1).val; omega
  | ⟨2, _⟩ => show 0 + 1 * (j 2).val = (j 2).val; omega

theorem blockOf_emb (t : Fin 4) (j : S1x128x512.Idx) : blockOf ((blockRect t).emb j) = t := by
  apply Fin.ext
  have : (j 0).val < 1 := (j 0).isLt
  show t.val + 1 * (j 0).val = t.val
  omega

theorem inBlock_emb (t : Fin 4) (j : S1x128x512.Idx) : inBlock ((blockRect t).emb j) = j := by
  funext a
  apply Fin.ext
  match a with
  | ⟨0, _⟩ =>
    have : (j 0).val < 1 := (j 0).isLt
    show 0 = (j 0).val
    omega
  | ⟨1, _⟩ => show 0 + 1 * (j 1).val = (j 1).val; omega
  | ⟨2, _⟩ => show 0 + 1 * (j 2).val = (j 2).val; omega

theorem blocks_disjoint (t t' : Fin 4) (h : t ≠ t') : Disjoint (blockRect t).set (blockRect t').set := by
  rw [Finset.disjoint_left]
  intro i hi hi'
  obtain ⟨j, rfl⟩ := (blockRect t).exists_idx_of_mem hi
  obtain ⟨j', hj'⟩ := (blockRect t').exists_idx_of_mem hi'
  have h1 := blockOf_emb t j
  have h2 := blockOf_emb t' j'
  rw [show (blockRect t').emb j' = (blockRect t).emb j from hj'] at h2
  exact h (h1.symm.trans h2)

theorem blocks_cover : (Finset.univ : Finset (Fin 4)).biUnion (fun t => (blockRect t).set) = Finset.univ := by
  ext i
  simp only [Finset.mem_biUnion, Finset.mem_univ, true_and, iff_true]
  exact ⟨blockOf i, by
    rw [← Rect.map_emb_univ]
    exact Finset.mem_map.mpr ⟨inBlock i, Finset.mem_univ _, blockRect_emb i⟩⟩

section

variable {nD : Nat} {τ : Topo} {Val : EltTy → Type}
variable {Ix : Type} [DecidableEq Ix] {U : Type} [URA U] {Lvl : Type} [Preorder Lvl]

local notation "𝕄" => MT nD τ sig Ix Val ℕ U Lvl

variable (c : Thread nD τ) {cs : CoreSpace} {e : EltTy} (M : Memref sig c.2.kind cs S4x128x512 e)

/-- A block owned without the stack's axis is the block owned with it. -/
theorem owns_slot (d : ℕ) (h : Slot d) (q : PosShare TreeShare) (X : S1x128x512.Idx → Val e) :
    (owns c (slot M d h) q (lower X) : sProp 𝕄)
      = owns c (M.slice (Rect.unit (s := S4x128x512) ![d, 0, 0] S1x128x512.size h) (fun _ => rfl)) q X := by
  have hset : (slot M d h).view.set = (M.view.slice (Rect.unit (s := S4x128x512) ![d, 0, 0] S1x128x512.size h)).set :=
    View.set_reshape ..
  have hread : ∀ f : M.view.ty.Contents Val, (slot M d h).view.read Val f
      = lower ((M.slice (Rect.unit (s := S4x128x512) ![d, 0, 0] S1x128x512.size h) (fun _ => rfl)).view.read Val f) := fun _ => rfl
  have hl : (owns c (slot M d h) q (lower X) : sProp 𝕄)
      ⊢ owns c (M.slice (Rect.unit (s := S4x128x512) ![d, 0, 0] S1x128x512.size h) (fun _ => rfl)) q X := by
    unfold owns
    rw [hset]
    iintro ⟨%f, %hf, H⟩
    iexists f
    isplitr
    · ipureintro
      have h1 := congrArg (fun Y => raise Y) ((hread f).symm.trans hf)
      simpa only [raise_lower] using h1
    iexact H
  have hr : (owns c (M.slice (Rect.unit (s := S4x128x512) ![d, 0, 0] S1x128x512.size h) (fun _ => rfl)) q X : sProp 𝕄)
      ⊢ owns c (slot M d h) q (lower X) := by
    unfold owns
    rw [hset]
    iintro ⟨%f, %hf, H⟩
    iexists f
    isplitr
    · ipureintro; rw [hread f, hf]
    iexact H
  exact BI.equiv_iff.mp ⟨hl, hr⟩

/-- Four blocks put together into a stack. -/
def glueBlocks (G : Fin 4 → S128x512.Idx → Val e) : S4x128x512.Idx → Val e := fun j => raise (G (blockOf j)) (inBlock j)

theorem glueBlocks_emb (G : Fin 4 → S128x512.Idx → Val e) (t : Fin 4) : (fun j => glueBlocks G ((blockRect t).emb j)) = raise (G t) := by
  funext j
  unfold glueBlocks
  rw [blockOf_emb, inBlock_emb]

abbrev i0 : Slot 0 := slot_inb 0

/-- A stack's four blocks, each holding anything. -/
abbrev blocks : sProp 𝕄 :=
  iprop((∃ X, owns c (slot M 0 (slot_inb 0)) fullShare X) ∗ (∃ X, owns c (slot M 1 (slot_inb 1)) fullShare X)
    ∗ (∃ X, owns c (slot M 2 (slot_inb 2)) fullShare X) ∗ ∃ X, owns c (slot M 3 (slot_inb 3)) fullShare X)

/-- A stack splits into its four blocks. -/
theorem stack_split (X : S4x128x512.Idx → Val e) : (owns c M fullShare X : sProp 𝕄) ⊢ blocks c M := by
  refine (owns_rects c M fullShare blockRect (fun _ _ => rfl) blocks_disjoint blocks_cover X).trans ?_
  rw [bigSep_univ_eq_bigSepL [(0 : Fin 4), 1, 2, 3] (by decide) (by decide)]
  show iprop(_ ∗ _ ∗ _ ∗ _) ⊢ _
  have key : ∀ (t : Fin 4) (Y : S1x128x512.Idx → Val e), (owns c (M.slice (blockRect t) (fun _ => rfl)) fullShare Y : sProp 𝕄)
      ⊢ iprop(∃ X, owns c (slot M t.val (slot_inb t)) fullShare X) := fun t Y => by
    rw [← owns_slot]
    iintro H; iexists _; iexact H
  exact Laws.sep_mono (key 0 _) (Laws.sep_mono (key 1 _) (Laws.sep_mono (key 2 _) (key 3 _)))

/-- Four blocks join into the stack. -/
theorem stack_join [∀ e, Nonempty (Val e)] : blocks c M ⊢ (iprop(∃ X, owns c M fullShare X) : sProp 𝕄) := by
  iintro ⟨⟨%X0, H0⟩, ⟨%X1, H1⟩, ⟨%X2, H2⟩, ⟨%X3, H3⟩⟩
  iexists (glueBlocks ![X0, X1, X2, X3])
  have key : ∀ (t : Fin 4), (owns c (slot M t.val (slot_inb t)) fullShare ((![X0, X1, X2, X3] : Fin 4 → S128x512.Idx → Val e) t) : sProp 𝕄)
      ⊢ owns c (M.slice (blockRect t) (fun _ => rfl)) fullShare (fun j => glueBlocks ![X0, X1, X2, X3] ((blockRect t).emb j)) := fun t => by
    rw [← owns_slot, glueBlocks_emb, lower_raise]
  have all := (Laws.sep_mono (key 0) (Laws.sep_mono (key 1) (Laws.sep_mono (key 2) (key 3)))).trans
    ((Entails.of_eq (bigSep_univ_eq_bigSepL [(0 : Fin 4), 1, 2, 3] (by decide) (by decide)
      (fun t => (owns c (M.slice (blockRect t) (fun _ => rfl)) fullShare (fun j => glueBlocks ![X0, X1, X2, X3] ((blockRect t).emb j)) : sProp 𝕄))).symm).trans
      (owns_of_rects c M fullShare blockRect (fun _ _ => rfl) blocks_disjoint blocks_cover (glueBlocks ![X0, X1, X2, X3])))
  iapply all
  isplitl [H0]; · iexact H0
  isplitl [H1]; · iexact H1
  isplitl [H2]; · iexact H2
  iexact H3

end

end Cert.Moe

end
-- ==== Proof.Launch.lean ====
/-
# The launch

The exchange is dealt to the four devices, each device's body is run as the pipeline's one point, and the whole
program's run is read off: every device ends with its result in place, its arguments unchanged and every semaphore
at zero.
-/
module

public import proofs.«01_k».proof.Proof.Body
public import proofs.«01_k».proof.Proof.Stack
public import proofs.«01_k».proof.Proof.Gen.KernelIdeal.Frame
public import Idealize.ShloMosaic.Lib.Pipeline.Regions
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the program starts from. -/
def st₀ : MemSt nD τ sig (Elt F) := ⟨m, fun _ => 0, ρ⟩

/-- The inputs as the memory holds them. -/
def ins : Ins F where
  x c := (win0_0.blk (0 : Fin 1)).view.read (Elt F) (m ((c : Thread nD τ).loc main_arg0))
  w c := (win0_1.blk (0 : Fin 1)).view.read (Elt F) (m ((c : Thread nD τ).loc main_arg1))
  i c := (win0_2.blk (0 : Fin 1)).view.read (Elt F) (m ((c : Thread nD τ).loc main_arg2))
  e c := (win0_3.blk (0 : Fin 1)).view.read (Elt F) (m ((c : Thread nD τ).loc main_arg3))

/-! ## What a device starts from -/

/-- The kernel's own semaphores: sixteen, of which four are never used. -/
abbrev osem : Fin 16 → SemLoc sig := fun k => .dma ⟨5 + k.val, by have := k.isLt; show _ < 21; omega⟩

/-- The four semaphores that are never used. -/
def spare (c : Dev nD) : sProp 𝕄 := iprop(semVal ((c : Thread nD τ), SemLoc.dma ⟨5, by decide⟩) 0 ∗ semVal ((c : Thread nD τ), SemLoc.dma ⟨9, by decide⟩) 0 ∗ semVal ((c : Thread nD τ), SemLoc.dma ⟨13, by decide⟩) 0 ∗ semVal ((c : Thread nD τ), SemLoc.dma ⟨17, by decide⟩) 0)

/-- Payment `j` of the fifteen a device makes: to which peer, on which cell, numbered how. -/
abbrev payPeer : Fin 15 → ℕ := ![1, 2, 3, 0, 0, 0, 3, 2, 1, 0, 0, 0, 3, 2, 1]
abbrev payCell : Fin 15 → Fin 13 := ![0, 0, 0, 1, 2, 3, 4, 5, 6, 7, 8, 9, 10, 11, 12]
abbrev payNo : Fin 15 → Fin 4 := ![3, 2, 1, 0, 0, 0, 0, 0, 0, 0, 0, 0, 0, 0, 0]

/-- The rights to the payments on a device's own cells. -/
def toks (c : Dev nD) : sProp 𝕄 := bigSep Finset.univ fun j : Fin 15 => tok c (payCell j) (payNo j)
/-- The rights to the payments a device makes. -/
def payToks (c : Dev nD) : sProp 𝕄 := bigSep Finset.univ fun j : Fin 15 => tok (peer c (payPeer j)) (payCell j) (payNo j)
/-- A device's positions on its own cells. -/
def places (c : Dev nD) : sProp 𝕄 := bigSep Finset.univ fun k : Fin 13 => pos c k

/-- The exchange as device `c` takes part in it. -/
def part₀ (c : Dev nD) : sProp 𝕄 := iprop(∃ K, records (ins m) K ∗ places c ∗ payToks c)

/-- What the global step hands device `c`. -/
def G' (c : Dev nD) : sProp 𝕄 := iprop(part₀ m c ∗ spare c)

/-- The tickets a device starts with. -/
def tickets (c : Dev nD) : sProp 𝕄 := iprop(cred (tallyAt (kcell (c, 0)) () 3) ∗ cred (tallyAt (kcell (c, 4)) () N) ∗ cred (tallyAt (kcell (c, 5)) () N) ∗ cred (tallyAt (kcell (c, 6)) () N) ∗ cred (tallyAt (kcell (c, 10)) () N) ∗ cred (tallyAt (kcell (c, 11)) () N) ∗ cred (tallyAt (kcell (c, 12)) () N))

/-- What device `c`'s body starts from, its buffers apart. -/
def start (c : Dev nD) : sProp 𝕄 := iprop(part₀ m c ∗ spare c ∗ tickets c ∗ levAts L lv)

/-- A device's scratch buffers, holding anything. -/
def scratch (c : Dev nD) : sProp 𝕄 := iprop((∃ X, owns (c : Thread nD τ) gwM fullShare X) ∗ blocks (c : Thread nD τ) stM ∗ blocks (c : Thread nD τ) rsM ∗ (∃ X, owns (c : Thread nD τ) redM fullShare X) ∗ (∃ X, owns (c : Thread nD τ) p3M fullShare X) ∗ blocks (c : Thread nD τ) agM)

def Φ₀ (c : Dev nD) : sProp 𝕄 := iprop(start m c ∗ scratch c)
def Φ₁ (c : Dev nD) : sProp 𝕄 := iprop(scratch c ∗ spare c ∗ semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (ins m).x c
    | ⟨1, _⟩ => (ins m).w c
    | ⟨2, _⟩ => (ins m).i c
    | ⟨3, _⟩ => (ins m).e c
    | ⟨4, _⟩ => result (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem before_0 (c : Dev nD) (d) : (dats m ρ 0 c).before (0 : Fin 5) t₀ d = (ins m).x c := by unfold Dat.before; rw [if_pos (fetch0_0 t₀)]; rfl
theorem before_1 (c : Dev nD) (d) : (dats m ρ 0 c).before (1 : Fin 5) t₀ d = (ins m).w c := by unfold Dat.before; rw [if_pos (fetch0_1 t₀)]; rfl
theorem before_2 (c : Dev nD) (d) : (dats m ρ 0 c).before (2 : Fin 5) t₀ d = (ins m).i c := by unfold Dat.before; rw [if_pos (fetch0_2 t₀)]; rfl
theorem before_3 (c : Dev nD) (d) : (dats m ρ 0 c).before (3 : Fin 5) t₀ d = (ins m).e c := by unfold Dat.before; rw [if_pos (fetch0_3 t₀)]; rfl

/-! ## The body as the pipeline's one point -/

def bodyPre (c : Dev nD) : sProp 𝕄 :=
  iprop(Φ₀ m c ∗ (dats m ρ 0 c).owesAt () t₀.castSucc
    ∗ (∃ d, owns (c : Thread nD τ) xM fullShare ((dats m ρ 0 c).before (0 : Fin 5) t₀ d)) ∗ (∃ d, owns (c : Thread nD τ) wM fullShare ((dats m ρ 0 c).before (1 : Fin 5) t₀ d)) ∗ (∃ d, owns (c : Thread nD τ) iM fullShare ((dats m ρ 0 c).before (2 : Fin 5) t₀ d)) ∗ (∃ d, owns (c : Thread nD τ) eM fullShare ((dats m ρ 0 c).before (3 : Fin 5) t₀ d)) ∗ (∃ d, owns (c : Thread nD τ) oM fullShare ((dats m ρ 0 c).before (4 : Fin 5) t₀ d)))

def bodyPost (c : Dev nD) : sProp 𝕄 :=
  iprop(Φ₁ c ∗ (dats m ρ 0 c).owesAt () t₀.succ ∗ owns (c : Thread nD τ) xM fullShare ((ins m).x c) ∗ owns (c : Thread nD τ) wM fullShare ((ins m).w c) ∗ owns (c : Thread nD τ) iM fullShare ((ins m).i c) ∗ owns (c : Thread nD τ) eM fullShare ((ins m).e c) ∗ owns (c : Thread nD τ) oM fullShare (result (ins m) c))

/-- The positions, one by one. -/
theorem places_eq (c : Dev nD) : (places c : sProp 𝕄) = iprop(pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12) := by
  unfold places
  rw [bigSep_univ_eq_bigSepL [(0 : Fin 13), 1, 2, 3, 4, 5, 6, 7, 8, 9, 10, 11, 12] (by decide) (by decide)]; rfl
/-- The rights to a device's payments, one by one. -/
theorem payToks_eq (c : Dev nD) : (payToks c : sProp 𝕄) = iprop(tok (peer c 1) 0 3 ∗ tok (peer c 2) 0 2 ∗ tok (peer c 3) 0 1 ∗ tok c 1 0 ∗ tok c 2 0 ∗ tok c 3 0 ∗ tok (peer c 3) 4 0 ∗ tok (peer c 2) 5 0 ∗ tok (peer c 1) 6 0 ∗ tok c 7 0 ∗ tok c 8 0 ∗ tok c 9 0 ∗ tok (peer c 3) 10 0 ∗ tok (peer c 2) 11 0 ∗ tok (peer c 1) 12 0) := by
  unfold payToks
  rw [bigSep_univ_eq_bigSepL [(0 : Fin 15), 1, 2, 3, 4, 5, 6, 7, 8, 9, 10, 11, 12, 13, 14] (by decide) (by decide)]
  show iprop(tok (peer c 1) 0 3 ∗ tok (peer c 2) 0 2 ∗ tok (peer c 3) 0 1 ∗ tok (peer c 0) 1 0 ∗ tok (peer c 0) 2 0 ∗ tok (peer c 0) 3 0 ∗ tok (peer c 3) 4 0 ∗ tok (peer c 2) 5 0 ∗ tok (peer c 1) 6 0 ∗ tok (peer c 0) 7 0 ∗ tok (peer c 0) 8 0 ∗ tok (peer c 0) 9 0 ∗ tok (peer c 3) 10 0 ∗ tok (peer c 2) 11 0 ∗ tok (peer c 1) 12 0) = _
  rw [peer_zero]

set_option maxHeartbeats 1600000 in
set_option maxRecDepth 8000 in
/-- Device `c`'s body runs from `bodyPre` to `bodyPost`. -/
theorem sound_body (c : Dev nD) :
    bodyPre m ρ c ⊢ wp frame (wpE (defs₀ (F := F)) 𝒱₀ (c : Thread nD τ) none) Set.univ (cc0_body (F := F) xM (hw _) wM (hw _) iM (hw _) eM (hw _) oM (hw _) gwM (hw _) stM (hw _) rsM (hw _) redM (hw _) p3M (hw _) agM (hw _) cc0_scratch6 cc0_scratch7 cc0_scratch8 cc0_scratch9) (fun _ => bodyPost m ρ c) := by
  unfold bodyPre Φ₀ start part₀ scratch tickets
  rw [places_eq, payToks_eq]
  simp only [before_0, before_1, before_2, before_3]
  iintro ⟨⟨⟨⟨%K, #HR, HQ, HT⟩, Hsp, ⟨Hb, Hc4, Hc5, Hc6, Hc10, Hc11, Hc12⟩, #HV⟩, Hg, ⟨S0, S1, S2, S3⟩, ⟨R0, R1, R2, R3⟩, Hd, Hq, ⟨D0, D1, D2, D3⟩⟩, HO, ⟨%d0, Hx⟩, ⟨%d1, Hw⟩, ⟨%d2, Hi⟩, ⟨%d3, He⟩, ⟨%d4, Ho⟩⟩
  icases HQ with ⟨Q0, Q1, Q2, Q3, Q4, Q5, Q6, Q7, Q8, Q9, Q10, Q11, Q12⟩
  icases HT with ⟨T01, T02, T03, T1, T2, T3, T4, T5, T6, T7, T8, T9, T10, T11, T12⟩
  unfold Dat.owesAt Pipeline.owesWithin
  icases HO with ⟨%W, %hW, HO⟩
  ihave HO := (show _ ⊢ due' c ((debts c).drop 0) from (by unfold due'; iintro H; iexists W; iexact H)) $$ HO
  iapply (run_body (ins m) K c ((dats m ρ 0 c).before (4 : Fin 5) t₀ d4)) $$ [HO T01 T02 T03 T1 T2 T3 T4 T5 T6 T7 T8 T9 T10 T11 T12 Hb Hc4 Hc5 Hc6 Hc10 Hc11 Hc12 Q0 Q1 Q2 Q3 Q4 Q5 Q6 Q7 Q8 Q9 Q10 Q11 Q12 Hx Hw Hi He Ho Hg S1 S2 S3 Hd Hq R1 R2 R3 D1 D2 D3]
  · unfold bodyIn
    isplitr; · iexact HR
    isplitr; · iexact HV
    isplitl [HO]; · iexact HO
    isplitl [T01]; · iexact T01
    isplitl [T02]; · iexact T02
    isplitl [T03]; · iexact T03
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [R1 D1]
    · unfold lend; isplitl [R1]; · iexact R1
      iexact D1
    isplitl [R2 D2]
    · unfold lend; isplitl [R2]; · iexact R2
      iexact D2
    isplitl [R3 D3]
    · unfold lend; isplitl [R3]; · iexact R3
      iexact D3
    isplitl [Hb]; · iexact Hb
    isplitl [Hc4]; · iexact Hc4
    isplitl [Hc5]; · iexact Hc5
    isplitl [Hc6]; · iexact Hc6
    isplitl [Hc10]; · iexact Hc10
    isplitl [Hc11]; · iexact Hc11
    isplitl [Hc12]; · iexact Hc12
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Hx]; · iexact Hx
    isplitl [Hw]; · iexact Hw
    isplitl [Hi]; · iexact Hi
    isplitl [He]; · iexact He
    isplitl [Ho]; · iexact Ho
    isplitl [Hg]; · iexact Hg
    isplitl [S1]; · iexact S1
    isplitl [S2]; · iexact S2
    isplitl [S3]; · iexact S3
    isplitl [Hd]; · iexact Hd
    iexact Hq
  unfold bodyOut
  iintro ⟨HO, Hz0, Hz1, Hz2, Hz3, Hz4, Hz5, Hz6, Hz7, Hz8, Hz9, Hz10, Hz11, Hz12, Hx, Hw, Hi, He, Ho, Hg, S1, S2, S3, R1, R2, R3, D1, D2, D3, Hd, Hq⟩
  unfold bodyPost Φ₁ scratch
  isplitl [Hg S0 S1 S2 S3 R0 R1 R2 R3 D0 D1 D2 D3 Hd Hq Hsp Hz0 Hz1 Hz2 Hz3 Hz4 Hz5 Hz6 Hz7 Hz8 Hz9 Hz10 Hz11 Hz12]
  · isplitl [Hg S0 S1 S2 S3 R0 R1 R2 R3 D0 D1 D2 D3 Hd Hq]
    · isplitl [Hg]; · iexact Hg
      isplitl [S0 S1 S2 S3]
      · isplitl [S0]; · iexact S0
        isplitl [S1]; · iexact S1
        isplitl [S2]; · iexact S2
        iexact S3
      isplitl [R0 R1 R2 R3]
      · isplitl [R0]; · iexact R0
        isplitl [R1]; · iexact R1
        isplitl [R2]; · iexact R2
        iexact R3
      isplitl [Hd]; · iexact Hd
      isplitl [Hq]; · iexact Hq
      isplitl [D0]; · iexact D0
      isplitl [D1]; · iexact D1
      isplitl [D2]; · iexact D2
      iexact D3
    isplitl [Hsp]; · iexact Hsp
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  isplitl [HO]
  · unfold due'
    icases HO with ⟨%W', HO⟩
    iexists W'
    isplitr; · ipureintro; exact fun _ _ => Or.inl trivial
    iexact HO
  isplitl [Hx]; · iexact Hx
  isplitl [Hw]; · iexact Hw
  isplitl [Hi]; · iexact Hi
  isplitl [He]; · iexact He
  iexact Ho

set_option maxRecDepth 4000 in
/-- The library's body obligation on device `c`. -/
theorem body_obligation (c : Dev nD) : BodyObligation (dats (F := F) m ρ 0 c) (defs₀ (F := F)) 𝒱₀ () Set.univ := fun t => by
  rw [show t = t₀ from fin_N0 t, bigSep_W, bigSep_W]
  exact sound_body m ρ c

/-! ## Dealing the exchange -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The payments on a device's own cells. -/
abbrev tokOf (x : Dev nD × Fin 15) : GSem nD τ sig × ℕ × Fin 4 := (kcell (x.1, payCell x.2), 0, payNo x.2)
theorem tokOf_injective : Function.Injective tokOf := by
  rintro ⟨c, j⟩ ⟨c', j'⟩ h
  have h1 : (c, payCell j) = (c', payCell j') := kcell_injective (congrArg (fun x : GSem nD τ sig × ℕ × Fin 4 => x.1) h)
  have h2 : payNo j = payNo j' := congrArg (fun x : GSem nD τ sig × ℕ × Fin 4 => x.2.2) h
  have h3 : payCell j = payCell j' := congrArg Prod.snd h1
  have h4 : ∀ j j' : Fin 15, payNo j = payNo j' → payCell j = payCell j' → j = j' := by decide
  have h5 : c = c' := congrArg Prod.fst h1
  exact Prod.ext h5 (h4 j j' h2 h3)
def allToks : Finset (GSem nD τ sig × ℕ × Fin 4) := Finset.univ.map ⟨tokOf, tokOf_injective⟩

/-- The ghost state at launch. -/
def u₀ : UU :=
  (initOf (Pipeline.cells cfgs cellOf_inj) (Pipeline.launchToks cfgs cellOf_inj), initOf allCells allToks)

/-- What the ghost state at launch gives device `c`. -/
def G (c : Dev nD) : sProp 𝕄 :=
  iprop((bigSep Finset.univ fun k : Fin 13 => roundState EX (sched (ins m)) (kcell (c, k)) 0)
    ∗ (bigSep Finset.univ fun k : Fin 13 => iprop(pos c k ∗ reached EX (kcell (c, k)) 0)) ∗ toks c)

theorem fund : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]; rfl
  iintro HX
  imod (Rounds.fund EX (sched (ins m)) allCells allToks) $$ HX with ⟨Hst, Hr, Hat, Htok⟩
  imodintro
  ihave Hst' := (Entails.of_eq (hX fun g => roundState EX (sched (ins m)) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma ⟨5, by decide⟩) 0 ∗ semVal (kcell (c, 1)) 0 ∗ semVal (kcell (c, 2)) 0 ∗ semVal (kcell (c, 3)) 0 ∗ semVal ((c : Thread nD τ), SemLoc.dma ⟨9, by decide⟩) 0 ∗ semVal (kcell (c, 4)) 0 ∗ semVal (kcell (c, 5)) 0 ∗ semVal (kcell (c, 6)) 0 ∗ semVal ((c : Thread nD τ), SemLoc.dma ⟨13, by decide⟩) 0 ∗ semVal (kcell (c, 7)) 0 ∗ semVal (kcell (c, 8)) 0 ∗ semVal (kcell (c, 9)) 0 ∗ semVal ((c : Thread nD τ), SemLoc.dma ⟨17, by decide⟩) 0 ∗ semVal (kcell (c, 10)) 0 ∗ semVal (kcell (c, 11)) 0 ∗ semVal (kcell (c, 12)) 0) := by
  rw [Pipeline.ownSems0_eq_of_list c osem [0, 1, 2, 3, 4, 5, 6, 7, 8, 9, 10, 11, 12, 13, 14, 15] (by decide) (by decide)]; rfl

/-- The barrier's semaphore is the launch's one other semaphore. -/
theorem unscopedSems0_eq (c : Dev nD) : (unscopedSems0 c : sProp 𝕄) = semVal (kcell (c, 0)) 0 := by
  unfold unscopedSems0; rw [bigSep_eq_bigSepL_of_eq [csem 0] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ spare c) : sProp 𝕄) := by
  rw [ownSems0_eq, unscopedSems0_eq, bigSep_univ_eq_bigSepL [(0 : Fin 13), 1, 2, 3, 4, 5, 6, 7, 8, 9, 10, 11, 12] (by decide) (by decide)]
  unfold spare
  show _ ⊢ iprop((semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0) ∗ _)
  iintro ⟨⟨P5, H1, H2, H3, P9, H4, H5, H6, P13, H7, H8, H9, P17, H10, H11, H12⟩, H0⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [P5]; · iexact P5
  isplitl [P9]; · iexact P9
  isplitl [P13]; · iexact P13
  iexact P17

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched (ins m)) κ (kcell (c, k))))
          ∗ (bigSep Finset.univ fun k => iprop(pos c k ∗ reached EX (kcell (c, k)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun k : Fin 13 => semVal (kcell (c, k)) 0) ∗ bigSep Finset.univ fun k : Fin 13 => roundState EX (sched (ins m)) (kcell (c, k)) 0)
      ⊢ (|={Set.univ}=> bigSep Finset.univ fun k => iprop(∃ κ : ℕ, cellInv EX (sched (ins m)) κ (kcell (c, k))) : sProp 𝕄) from by
        rw [← bigSep_sep']
        exact (bigSep_mono fun k _ => (Rounds.body_intro EX (sched (ins m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-- Going to a peer is a permutation of the devices. -/
def peerEquiv (d : Fin 4) : Dev nD ≃ Dev nD where
  toFun c := peer c d.val
  invFun c := peer c (4 - d.val)
  left_inv := by revert d; decide
  right_inv := by revert d; decide

/-- The rights, dealt from the cells' owners to the devices that pay. -/
theorem toks_around : (bigSep Finset.univ fun c : Dev nD => (toks c : sProp 𝕄)) ⊢ bigSep Finset.univ fun c : Dev nD => payToks c := by
  unfold toks payToks
  rw [bigSep_univ_comm (fun (c : Dev nD) (j : Fin 15) => (tok c (payCell j) (payNo j) : sProp 𝕄)),
    bigSep_univ_comm (fun (c : Dev nD) (j : Fin 15) => (tok (peer c (payPeer j)) (payCell j) (payNo j) : sProp 𝕄))]
  refine bigSep_mono fun j _ => ?_
  have hj : ∀ j : Fin 15, payPeer j < 4 := by decide
  exact Entails.of_eq (bigSep_univ_equiv (peerEquiv ⟨payPeer j, hj j⟩) fun c : Dev nD => (tok c (payCell j) (payNo j) : sProp 𝕄))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem part_intro (K : Dev nD × Fin 13 → ℕ) (c : Dev nD) : iprop(records (ins m) K ∗ places c ∗ payToks c ∗ spare c) ⊢ G' m c := by
  unfold G' part₀
  iintro ⟨HR, HP, HT, Hs⟩
  isplitl [HR HP HT]
  · iexists K
    isplitl [HR]; · iexact HR
    isplitl [HP]; · iexact HP
    iexact HT
  iexact Hs

theorem regroup :
    (bigSep Finset.univ fun c : Dev nD => iprop((bigSep Finset.univ fun k => iprop(∃ κ : ℕ, cellInv EX (sched (ins m)) κ (kcell (c, k))))
          ∗ (bigSep Finset.univ fun k => iprop(pos c k ∗ reached EX (kcell (c, k)) 0)) ∗ toks c ∗ spare c) : sProp 𝕄)
      ⊢ bigSep Finset.univ (G' m) := by
  rw [bigSep_sep', bigSep_sep', bigSep_sep', ← bigSep_univ_prod (fun ck : Dev nD × Fin 13 => iprop(∃ κ : ℕ, cellInv EX (sched (ins m)) κ (kcell ck))),
    bigSep_congr (s := Finset.univ) (fun (c : Dev nD) _ => bigSep_sep' Finset.univ (fun k : Fin 13 => (pos c k : sProp 𝕄)) (fun k => reached EX (kcell (c, k)) 0)),
    bigSep_sep', ← bigSep_univ_prod (fun ck : Dev nD × Fin 13 => (reached EX (kcell ck) 0 : sProp 𝕄))]
  iintro ⟨HI, ⟨Hat, #HR⟩, Htok, Hsp⟩
  ihave HK := (BI.bigSep_exists_pi Finset.univ (fun (ck : Dev nD × Fin 13) (κ : ℕ) => (cellInv EX (sched (ins m)) κ (kcell ck) : sProp 𝕄))) $$ HI
  icases HK with ⟨%K, #HI⟩
  ihave Htk := (toks_around (F := F)) $$ Htok
  iapply (bigSep_with_persistent (R := records (ins m) K) fun c _ => part_intro m K c)
  isplitr
  · unfold records; isplitl; · iexact HI
    iexact HR
  · unfold places
    rw [bigSep_sep', bigSep_sep']
    isplitl [Hat]; · iexact Hat
    isplitl [Htk]; · iexact Htk
    iexact Hsp

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The tickets -/

/-- How much the four devices together owe cell `k` of device `c`. -/
theorem owed_total (c : Dev nD) (k : Fin 13) (n : ℕ) (h : (∑ d : Dev nD, ((debts d).map fun y => if ((c, k) : Dev nD × Fin 13) = y.1 then y.2 else 0).sum) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact Finset.sum_congr rfl fun d _ => owedL_apply (debts d) (c, k)

theorem owed_bar (c : Dev nD) : (∑ d : Dev nD, ((debts d).map fun y => if ((c, 0) : Dev nD × Fin 13) = y.1 then y.2 else 0).sum) = 3 := by
  unfold debts
  generalize N = n
  revert c; intro c; fin_cases c <;> simp [Fin.sum_univ_four, peer, nD]

theorem owed_copy (c : Dev nD) (k : Fin 13) (hk : k = 4 ∨ k = 5 ∨ k = 6 ∨ k = 10 ∨ k = 11 ∨ k = 12) :
    (∑ d : Dev nD, ((debts d).map fun y => if ((c, k) : Dev nD × Fin 13) = y.1 then y.2 else 0).sum) = N := by
  unfold debts
  generalize N = n
  rcases hk with rfl | rfl | rfl | rfl | rfl | rfl <;> fin_cases c <;> simp [Fin.sum_univ_four, peer, nD]

theorem creds (c : Dev nD) : (Pipeline.launchCred O₀ c : sProp 𝕄) ⊢ tickets c := by
  unfold Pipeline.launchCred tickets
  have key : ∀ (S : Finset (SemLoc sig)) (k : Fin 13) (n : ℕ), csem k ∈ S → (∑ d : Dev nD, ((debts d).map fun y => if ((c, k) : Dev nD × Fin 13) = y.1 then y.2 else 0).sum) = n →
      (bigSep S (fun sm => (cred (tallyOn ((c : Thread nD τ), sm) (launchCredit (Pipeline.owing O₀) 0 ((c : Thread nD τ), sm))) : sProp 𝕄)))
        ⊢ iprop(cred (tallyAt (kcell (c, k)) () n) ∗ bigSep (S.erase (csem k)) (fun sm => (cred (tallyOn ((c : Thread nD τ), sm) (launchCredit (Pipeline.owing O₀) 0 ((c : Thread nD τ), sm))) : sProp 𝕄))) := fun S k n hS h => by
    rw [← owed_total c k n h]
    exact Entails.of_eq (bigSep_erase hS)
  have mem : ∀ (S : Finset (SemLoc sig)) (a b : Fin 13), csem a ∈ S → a ≠ b → csem a ∈ S.erase (csem b) :=
    fun S a b h hab => Finset.mem_erase.mpr ⟨fun h' => hab (csem_injective h'), h⟩
  iintro H
  ihave H := (key Finset.univ 0 3 (Finset.mem_univ _) (owed_bar c)) $$ H
  icases H with ⟨H0, H⟩
  ihave H := (key _ 4 N (mem _ 4 0 (Finset.mem_univ _) (by decide)) (owed_copy c 4 (by decide))) $$ H
  icases H with ⟨H4, H⟩
  ihave H := (key _ 5 N (mem _ 5 4 (mem _ 5 0 (Finset.mem_univ _) (by decide)) (by decide)) (owed_copy c 5 (by decide))) $$ H
  icases H with ⟨H5, H⟩
  ihave H := (key _ 6 N (mem _ 6 5 (mem _ 6 4 (mem _ 6 0 (Finset.mem_univ _) (by decide)) (by decide)) (by decide)) (owed_copy c 6 (by decide))) $$ H
  icases H with ⟨H6, H⟩
  ihave H := (key _ 10 N (mem _ 10 6 (mem _ 10 5 (mem _ 10 4 (mem _ 10 0 (Finset.mem_univ _) (by decide)) (by decide)) (by decide)) (by decide)) (owed_copy c 10 (by decide))) $$ H
  icases H with ⟨H10, H⟩
  ihave H := (key _ 11 N (mem _ 11 10 (mem _ 11 6 (mem _ 11 5 (mem _ 11 4 (mem _ 11 0 (Finset.mem_univ _) (by decide)) (by decide)) (by decide)) (by decide)) (by decide)) (owed_copy c 11 (by decide))) $$ H
  icases H with ⟨H11, H⟩
  ihave H := (key _ 12 N (mem _ 12 11 (mem _ 12 10 (mem _ 12 6 (mem _ 12 5 (mem _ 12 4 (mem _ 12 0 (Finset.mem_univ _) (by decide)) (by decide)) (by decide)) (by decide)) (by decide)) (by decide)) (owed_copy c 12 (by decide))) $$ H
  icases H with ⟨H12, H⟩
  isplitl [H0]; · iexact H0
  isplitl [H4]; · iexact H4
  isplitl [H5]; · iexact H5
  isplitl [H6]; · iexact H6
  isplitl [H10]; · iexact H10
  isplitl [H11]; · iexact H11
  iexact H12

/-! ## The start and the end of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨HG, Hs⟩
  isplitl
  · isplitl [HG]; · iexact HG
    isplitl [Hs]; · iexact Hs
    isplitl [Hc]; · iexact Hc
    iexact Hlev
  · iempintro

/-- The scratch buffers as the launch holds them. -/
def rest (c : Dev nD) : sProp 𝕄 := iprop((∃ X, owns (c : Thread nD τ) gwM fullShare X) ∗ (∃ X, owns (c : Thread nD τ) stM fullShare X) ∗ (∃ X, owns (c : Thread nD τ) rsM fullShare X) ∗ (∃ X, owns (c : Thread nD τ) redM fullShare X) ∗ (∃ X, owns (c : Thread nD τ) p3M fullShare X) ∗ (∃ X, owns (c : Thread nD τ) agM fullShare X))

theorem rest_eq (c : Dev nD) : (Pipeline.scopedRest cfg0.spec c : sProp 𝕄) = rest c := by
  rw [scopedRest0_eq]; unfold rest; simp only [owns_whole]; rfl

theorem rest_split (c : Dev nD) : (rest c : sProp 𝕄) ⊢ scratch c := by
  unfold rest scratch
  iintro ⟨Hg, ⟨%s, Hs⟩, ⟨%r, Hr⟩, Hd, Hq, ⟨%a, Ha⟩⟩
  ihave Hs := (stack_split (c : Thread nD τ) stM s) $$ Hs
  ihave Hr := (stack_split (c : Thread nD τ) rsM r) $$ Hr
  ihave Ha := (stack_split (c : Thread nD τ) agM a) $$ Ha
  isplitl [Hg]; · iexact Hg
  isplitl [Hs]; · iexact Hs
  isplitl [Hr]; · iexact Hr
  isplitl [Hd]; · iexact Hd
  isplitl [Hq]; · iexact Hq
  iexact Ha

theorem rest_join (c : Dev nD) : (scratch c : sProp 𝕄) ⊢ rest c := by
  unfold rest scratch
  iintro ⟨Hg, Hs, Hr, Hd, Hq, Ha⟩
  ihave Hs := (stack_join (c : Thread nD τ) stM) $$ Hs
  ihave Hr := (stack_join (c : Thread nD τ) rsM) $$ Hr
  ihave Ha := (stack_join (c : Thread nD τ) agM) $$ Ha
  isplitl [Hg]; · iexact Hg
  isplitl [Hs]; · iexact Hs
  isplitl [Hr]; · iexact Hr
  isplitl [Hd]; · iexact Hd
  isplitl [Hq]; · iexact Hq
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs]; · iexact Hs
  iapply (rest_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_eq, ownSems0_eq, unscopedSems0_eq]
  unfold Φ₁ spare
  iintro ⟨Hr, ⟨P5, P9, P13, P17⟩, H0, H1, H2, H3, H4, H5, H6, H7, H8, H9, H10, H11, H12⟩
  isplitl [H0]; · iexact H0
  isplitl [P5 H1 H2 H3 P9 H4 H5 H6 P13 H7 H8 H9 P17 H10 H11 H12]
  · isplitl [P5]; · iexact P5
    isplitl [H1]; · iexact H1
    isplitl [H2]; · iexact H2
    isplitl [H3]; · iexact H3
    isplitl [P9]; · iexact P9
    isplitl [H4]; · iexact H4
    isplitl [H5]; · iexact H5
    isplitl [H6]; · iexact H6
    isplitl [P13]; · iexact P13
    isplitl [H7]; · iexact H7
    isplitl [H8]; · iexact H8
    isplitl [H9]; · iexact H9
    isplitl [P17]; · iexact P17
    isplitl [H10]; · iexact H10
    isplitl [H11]; · iexact H11
    iexact H12
  iapply (rest_join c); iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by fin_cases w <;> fin_cases s <;> decide) (debts c) (by simp [debts, lvl])
    · exact mayWait c _ 0 (by fin_cases w <;> fin_cases s <;> decide) [] (by simp)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, and for any float values, every fair run of the program on the four
    devices ends; each device's arrays then hold what the proof data says, and every semaphore is at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's arguments end as they were. -/
theorem final_arg0 (c : Dev nD) : finalA m ρ c (0 : Fin 5) = m ((c : Thread nD τ).loc main_arg0) := (dats (F := F) m ρ 0 c).arrAt_in (0 : Fin 5) rfl _
theorem final_arg1 (c : Dev nD) : finalA m ρ c (1 : Fin 5) = m ((c : Thread nD τ).loc main_arg1) := (dats (F := F) m ρ 0 c).arrAt_in (1 : Fin 5) rfl _
theorem final_arg2 (c : Dev nD) : finalA m ρ c (2 : Fin 5) = m ((c : Thread nD τ).loc main_arg2) := (dats (F := F) m ρ 0 c).arrAt_in (2 : Fin 5) rfl _
theorem final_arg3 (c : Dev nD) : finalA m ρ c (3 : Fin 5) = m ((c : Thread nD τ).loc main_arg3) := (dats (F := F) m ρ 0 c).arrAt_in (3 : Fin 5) rfl _

/-- The run, read at the arguments: they end unchanged, and every semaphore ends at zero. -/
theorem run_args : θ_run defs (onTc (τ := τ) (main (F := F))) (st₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c 0).trans (final_arg0 m ρ c), (h.1 c 1).trans (final_arg1 m ρ c),
    (h.1 c 2).trans (final_arg2 m ρ c), (h.1 c 3).trans (final_arg3 m ρ c)⟩, h.2⟩) (run_main m ρ)

end Cert.Moe

end
-- ==== Proof.Outcome.lean ====
/-
# What the program leaves

The run of `Launch` read at the five arrays: the arguments unchanged, the result on every device the four chunks of
`result`, as a value of the arguments.
-/
module

public import proofs.«01_k».proof.Proof.Launch
public import Idealize.ShloMosaic.Lib.Pipeline.ValueKit

@[expose] public section

noncomputable section

namespace Cert.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The inputs are the argument arrays, whole. -/
theorem ins_x (c : Dev nD) : (ins m).x c = m ((c : Thread nD τ).loc main_arg0) := by
  have e : ∀ t : Fin cfg0.N, win0_0.index t = ![0, 0] := (by decide +kernel : ∀ t : Fin grid0.N, _)
  funext j
  refine congrArg (m ((c : Thread nD τ).loc main_arg0)) (show ((cfg0.win 0).blk t0_0).view.emb j = j from ?_)
  blk_ext [e]
theorem ins_w (c : Dev nD) : (ins m).w c = m ((c : Thread nD τ).loc main_arg1) := by
  have e : ∀ t : Fin cfg0.N, win0_1.index t = ![0, 0] := (by decide +kernel : ∀ t : Fin grid0.N, _)
  funext j
  refine congrArg (m ((c : Thread nD τ).loc main_arg1)) (show ((cfg0.win 1).blk t0_0).view.emb j = j from ?_)
  blk_ext [e]
theorem ins_i (c : Dev nD) : (ins m).i c = m ((c : Thread nD τ).loc main_arg2) := by
  have e : ∀ t : Fin cfg0.N, win0_2.index t = ![0, 0] := (by decide +kernel : ∀ t : Fin grid0.N, _)
  funext j
  refine congrArg (m ((c : Thread nD τ).loc main_arg2)) (show ((cfg0.win 2).blk t0_0).view.emb j = j from ?_)
  blk_ext [e]
theorem ins_e (c : Dev nD) : (ins m).e c = m ((c : Thread nD τ).loc main_arg3) := by
  have e : ∀ t : Fin cfg0.N, win0_3.index t = ![0, 0, 0] := (by decide +kernel : ∀ t : Fin grid0.N, _)
  funext j
  refine congrArg (m ((c : Thread nD τ).loc main_arg3)) (show ((cfg0.win 3).blk t0_0).view.emb j = j from ?_)
  blk_ext [e]

/-- The result array ends at `result`. -/
theorem final_out (c : Dev nD) : finalA m ρ c (4 : Fin 5) = result (ins m) c := by
  refine (dats m ρ 0 c).arrAt_eq_of_after_last (4 : Fin 5) t0_0 (by decide +kernel) _ fun j => ?_
  blk_simp
  rfl

/-- The run: every device ends with `result` in its result array and its arguments unchanged. -/
theorem run_result : θ_run defs (onTc (τ := τ) (main (F := F))) (st₀ m ρ) (fun r => ∀ c : Dev nD,
      r.2.mem ((c : Thread nD τ).loc main_v1) = result (ins m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h.1 c 4).trans (final_out m ρ c), (h.1 c 0).trans (final_arg0 m ρ c), (h.1 c 1).trans (final_arg1 m ρ c),
    (h.1 c 2).trans (final_arg2 m ρ c), (h.1 c 3).trans (final_arg3 m ρ c)⟩) (run_main m ρ)

end Cert.Moe

end
-- ==== Proof.KernelValue.lean ====
/-
# The kernel's values, element by element

Over the extended reals: the router's probabilities, the weights a device gives its own four experts,
and the share of the mixture it owes each device, each read at one index.
-/
module

public import proofs.«01_k».proof.Proof.Vals
public import Idealize.ShloMosaic.Lib.Pointwise

@[expose] public section

set_option maxRecDepth 16384

noncomputable section

namespace Cert.Moe

open Cert.KernelIdeal Cert.KernelIdeal.Gen
open Idealize.ShloMosaic
open Idealize.ShloMosaic.TcCoe

theorem fin4 (l : Fin 4) : l = 0 ∨ l = 1 ∨ l = 2 ∨ l = 3 := by revert l; decide

/-- A token's score for an expert. -/
def score (x : FVec Ideal S512x256 .f32) (w : FVec Ideal S256x16 .f32) (n : Fin 512) (k : Fin 16) : EReal :=
  ∑ d : Fin 256, x (ix2 n d) * w (ix2 d k)

/-- The probabilities of sixteen scores. -/
def softmax (s : Fin 16 → EReal) (k : Fin 16) : EReal :=
  Ideal.div (Ideal.exp (s k - Finset.univ.fold max ⊥ s)) (∑ k' : Fin 16, Ideal.exp (s k' - Finset.univ.fold max ⊥ s))

/-- The probability of the expert that a word names: every other one is masked. -/
def picked (p : Fin 16 → EReal) (i : BitVec 32) : EReal :=
  ∑ k : Fin 16, Scalar.select (IntOp.cmpi .eq (BitVec.ofNat 32 k.val) i) (p k) 0

/-- The weight of an expert from the probabilities and the two choices: the probabilities of the choices that name it,
    over the sum of the two. -/
def weight (p : Fin 16 → EReal) (i0 i1 e : BitVec 32) : EReal :=
  Ideal.div (Scalar.select (IntOp.cmpi .eq i0 e) (picked p i0) 0 + Scalar.select (IntOp.cmpi .eq i1 e) (picked p i1) 0)
    (picked p i0 + picked p i1)

theorem pay1_at (x : FVec Ideal S512x256 .f32) (w : FVec Ideal S256x16 .f32) (n : Fin 512) (k : Fin 16) :
    k0_pay1 (F := Ideal) x w (ix2 n k) = softmax (score x w n) k := by
  pointwise [k0_pay1, softmax, score]
  rw [show Ideal.ofBits FTy.f32 0xFF800000#32 = ⊥ by simp [Ideal.ofBits, Ideal.ieee]]

theorem pay4_at (p : FVec Ideal S512x16 .f32) (i : IVec S512x1 32) (n : Fin 512) :
    k0_pay4 (F := Ideal) p i (ix2 n 0) = picked (fun k => p (ix2 n k)) (i (ix2 n 0)) := by
  pointwise [k0_pay4, k0_pay2, picked]

theorem pay5_at (p : FVec Ideal S512x16 .f32) (i : IVec S512x1 32) (n : Fin 512) :
    k0_pay5 (F := Ideal) p i (ix2 n 0) = picked (fun k => p (ix2 n k)) (i (ix2 n 0)) := by
  pointwise [k0_pay5, k0_pay3, picked]

/-- The four columns of weights are one formula of the column's number. -/
theorem gates_at (p : FVec Ideal S512x16 .f32) (v : BitVec 32) (i0 i1 : IVec S512x1 32) (n : Fin 512) (l : Fin 4) :
    k0_pay9 (F := Ideal) v (k0_pay2 (F := Ideal) i0) (k0_pay3 (F := Ideal) i1) (k0_pay4 p i0) (k0_pay5 p i1) (k0_pay6 p i0 i1) (k0_pay7 v p i0 i1) (k0_pay8 v p i0 i1)
        (Scalar.addi (Scalar.muli v 4#32) 2#32) (ix2 n l)
      = weight (fun k => p (ix2 n k)) (i0 (ix2 n 0)) (i1 (ix2 n 0)) (Scalar.addi (Scalar.muli v 4#32) (BitVec.ofNat 32 l.val)) := by
  unfold weight
  rw [← pay4_at, ← pay5_at]
  rcases fin4 l with rfl | rfl | rfl | rfl <;> pointwise [k0_pay9, k0_pay7, k0_pay8, k0_pay6, k0_pay2, k0_pay3]

theorem pay10_at (e : FVec Ideal S4x256x512 .f32) (l : Fin 4) (d : Fin 256) (o : Fin 512) :
    k0_pay10 (F := Ideal) e (ix2 ⟨l.val * 256 + d.val, by omega⟩ o) = e (ix3 l d o) := by
  pointwise [k0_pay10]

/-- The payload's concatenated operand, whatever its four pieces. -/
theorem pay16_pieces (E : FVec Ideal S1024x512 .bf16) (x : FVec Ideal S128x256 .f32) (a b c d : FVec Ideal S128x1 .f32) :
    k0_pay16 (F := Ideal) E x a b c d
      = matmul dot_S128x1024_S1024x512_S128x512_1_0_0_1_n_n none
          (truncf .bf16 (concatenate S128x1024 1 [⟨S128x256, mulf x (broadcastTo S128x256 a broadcasts_S128x1_S128x256)⟩,
            ⟨S128x256, mulf x (broadcastTo S128x256 b broadcasts_S128x1_S128x256)⟩,
            ⟨S128x256, mulf x (broadcastTo S128x256 c broadcasts_S128x1_S128x256)⟩,
            ⟨S128x256, mulf x (broadcastTo S128x256 d broadcasts_S128x1_S128x256)⟩]
            concatenates_S128x256_S128x256_S128x256_S128x256_S128x1024_d1) bitsLt_bf16_f32)
          E (constant S128x512 .f32 0x00000000#32) := by
  have h : shapeCast S128x256 x shapeCasts_S128x256_S128x256 = x := shapeCast_id x _
  unfold k0_pay16
  dsimp only
  generalize shapeCast S128x256 x shapeCasts_S128x256_S128x256 = y at h
  subst h
  rfl

theorem pay16_at (E : FVec Ideal S1024x512 .bf16) (x : FVec Ideal S128x256 .f32) (g : Fin 4 → FVec Ideal S128x1 .f32) (r : Fin 128) (o : Fin 512) :
    k0_pay16 (F := Ideal) E x (g 0) (g 1) (g 2) (g 3) (ix2 r o)
      = ∑ l : Fin 4, ∑ d : Fin 256, x (ix2 r d) * g l (ix2 r 0) * E (ix2 ⟨l.val * 256 + d.val, by omega⟩ o) := by
  rw [pay16_pieces]
  pointwise
  rw [Fin.sum_univ_tiles 4 256 rfl]
  refine Finset.sum_congr rfl fun l _ => Finset.sum_congr rfl fun d _ => congrArg (· * _) ?_
  rcases fin4 l with rfl | rfl | rfl | rfl
  · exact (dif_pos (show 0 * 256 + d.val < 256 by omega)).trans
      (congrArg (fun z => x (ix2 r z) * g 0 (ix2 r 0)) (Fin.ext (show 0 * 256 + d.val = d.val by omega)))
  · exact (dif_neg (show ¬ 1 * 256 + d.val < 256 by omega)).trans <| (dif_pos (show 1 * 256 + d.val - 256 < 256 by omega)).trans
      (congrArg (fun z => x (ix2 r z) * g 1 (ix2 r 0)) (Fin.ext (show 1 * 256 + d.val - 256 = d.val by omega)))
  · exact (dif_neg (show ¬ 2 * 256 + d.val < 256 by omega)).trans <| (dif_neg (show ¬ 2 * 256 + d.val - 256 < 256 by omega)).trans <|
      (dif_pos (show 2 * 256 + d.val - 256 - 256 < 256 by omega)).trans
      (congrArg (fun z => x (ix2 r z) * g 2 (ix2 r 0)) (Fin.ext (show 2 * 256 + d.val - 256 - 256 = d.val by omega)))
  · exact (dif_neg (show ¬ 3 * 256 + d.val < 256 by omega)).trans <| (dif_neg (show ¬ 3 * 256 + d.val - 256 < 256 by omega)).trans <|
      (dif_neg (show ¬ 3 * 256 + d.val - 256 - 256 < 256 by omega)).trans
      (congrArg (fun z => x (ix2 r z) * g 3 (ix2 r 0)) (Fin.ext (show 3 * 256 + d.val - 256 - 256 - 256 = d.val by omega)))

/-- The two payloads for a share are one, but for where the result is put. -/
theorem pay14_eq (E : FVec Ideal S1024x512 .bf16) (x : FVec Ideal S128x256 .f32) (a b c d : FVec Ideal S128x1 .f32) (r : Fin 128) (o : Fin 512) :
    k0_pay14 (F := Ideal) E x a b c d (ix3 0 r o) = k0_pay16 (F := Ideal) E x a b c d (ix2 r o) := by
  have h : k0_pay14 (F := Ideal) E x a b c d
      = shapeCast S1x128x512 (truncf .bf16 (k0_pay16 (F := Ideal) E x a b c d) bitsLt_bf16_f32) shapeCasts_S128x512_S1x128x512 := rfl
  rw [h]
  generalize k0_pay16 (F := Ideal) E x a b c d = y
  pointwise

theorem me_eq (c : Dev nD) : me c = BitVec.ofNat 32 c.val := by revert c; decide

theorem expert_word (c : Dev nD) (l : Fin 4) :
    Scalar.addi (Scalar.muli (BitVec.ofNat 32 c.val) 4#32) (BitVec.ofNat 32 l.val) = BitVec.ofNat 32 (c.val * 4 + l.val) := by
  revert c l; decide

variable (A : Ins Ideal)

/-- A device's share of token `n`: what its own four experts, weighted, make of it. -/
def share (s : Dev nD) (n : Fin 512) (o : Fin 512) : EReal :=
  ∑ l : Fin 4, ∑ d : Fin 256, A.x s (ix2 n d)
    * weight (softmax (score (A.x s) (A.w s) n)) (A.i s (ix2 n 0)) (A.i s (ix2 n 1)) (BitVec.ofNat 32 (s.val * 4 + l.val))
    * A.e s (ix3 l d o)

theorem gates_eq (s : Dev nD) (n : Fin 512) (l : Fin 4) : gates A s (ix2 n l)
    = weight (softmax (score (A.x s) (A.w s) n)) (A.i s (ix2 n 0)) (A.i s (ix2 n 1)) (BitVec.ofNat 32 (s.val * 4 + l.val)) := by
  unfold gates
  rw [gates_at, me_eq, expert_word]
  have h0 : pick0 A s (ix2 n 0) = A.i s (ix2 n 0) := congrArg (A.i s) <| by
    funext a; apply Fin.ext
    match a with
    | ⟨0, _⟩ => show 0 + 1 * n.val = n.val; omega
    | ⟨1, _⟩ => rfl
  have h1 : pick1 A s (ix2 n 0) = A.i s (ix2 n 1) := congrArg (A.i s) <| by
    funext a; apply Fin.ext
    match a with
    | ⟨0, _⟩ => show 0 + 1 * n.val = n.val; omega
    | ⟨1, _⟩ => rfl
  rw [h0, h1, show (fun k => probs A s (ix2 n k)) = softmax (score (A.x s) (A.w s) n) from funext fun k => pay1_at _ _ n k]

/-- The token that row `r` of device `q`'s block is. -/
def token (q : Dev nD) (r : Fin 128) : Fin 512 := ⟨128 * q.val + r.val, by have : q.val < 4 := q.isLt; omega⟩

theorem mine_at (s q : Dev nD) (r : Fin 128) (o : Fin 512) :
    k0_pay16 (experts A s) (tokRows A s q) (gateRows A s q 0) (gateRows A s q 1) (gateRows A s q 2) (gateRows A s q 3) (ix2 r o)
      = share A s (token q r) o := by
  rw [pay16_at]
  unfold share
  refine Finset.sum_congr rfl fun l _ => Finset.sum_congr rfl fun d _ => ?_
  have hx : tokRows A s q (ix2 r d) = A.x s (ix2 (token q r) d) := congrArg (A.x s) <| by
    funext a; apply Fin.ext
    match a with
    | ⟨0, _⟩ => show 128 * q.val + 1 * r.val = 128 * q.val + r.val; omega
    | ⟨1, _⟩ => show 0 + 1 * d.val = d.val; omega
  have hg : gateRows A s q l (ix2 r 0) = gates A s (ix2 (token q r) l) := congrArg (gates A s) <| by
    funext a; apply Fin.ext
    match a with
    | ⟨0, _⟩ => show 128 * q.val + 1 * r.val = 128 * q.val + r.val; omega
    | ⟨1, _⟩ => show l.val + 1 * 0 = l.val; omega
  have he : experts A s (ix2 ⟨l.val * 256 + d.val, by omega⟩ o) = A.e s (ix3 l d o) := pay10_at (A.e s) l d o
  rw [hx, hg, he, gates_eq]

theorem sent_at (s q : Dev nD) (r : Fin 128) (o : Fin 512) : sentTo A s q (ix2 r o) = share A s (token q r) o := by
  rw [← mine_at, ← pay14_eq]
  unfold sentTo
  generalize k0_pay14 (experts A s) (tokRows A s q) (gateRows A s q 0) (gateRows A s q 1) (gateRows A s q 2) (gateRows A s q 3) = y
  pointwise

theorem pay17_at (a : FVec Ideal S128x512 .f32) (u v : FVec Ideal S128x512 .bf16) (r : Fin 128) (o : Fin 512) :
    k0_pay17 (F := Ideal) a (raise u) (raise v) (ix2 r o) = a (ix2 r o) + u (ix2 r o) + v (ix2 r o) := by
  pointwise [k0_pay17]

theorem pay18_at (a : FVec Ideal S128x512 .f32) (u v : FVec Ideal S128x512 .bf16) (r : Fin 128) (o : Fin 512) :
    k0_pay18 (F := Ideal) a (raise u) (raise v) (ix2 r o) = a (ix2 r o) + u (ix2 r o) + v (ix2 r o) := by
  pointwise [k0_pay18, k0_pay17]

theorem pay19_at (a : FVec Ideal S128x512 .f32) (u : FVec Ideal S128x512 .bf16) (r : Fin 128) (o : Fin 512) :
    k0_pay19 (F := Ideal) a (raise u) (ix2 r o) = a (ix2 r o) + u (ix2 r o) := by
  pointwise [k0_pay19]

theorem pay20_at (a : FVec Ideal S128x512 .f32) (u : FVec Ideal S128x512 .bf16) (r : Fin 128) (o : Fin 512) :
    k0_pay20 (F := Ideal) a (raise u) (ix2 r o) = a (ix2 r o) + u (ix2 r o) := by
  pointwise [k0_pay20, k0_pay19]

theorem pay21_at (u : FVec Ideal S128x512 .bf16) (r : Fin 128) (o : Fin 512) :
    k0_pay21 (F := Ideal) (raise u) (ix2 r o) = u (ix2 r o) := by
  pointwise [k0_pay21]

theorem pay22_at (u : FVec Ideal S128x512 .bf16) (r : Fin 128) (o : Fin 512) :
    k0_pay22 (F := Ideal) (raise u) (ix2 r o) = u (ix2 r o) := by
  pointwise [k0_pay22]

theorem pay24_at (u v : FVec Ideal S128x512 .bf16) (r : Fin 128) (o : Fin 512) :
    k0_pay24 (F := Ideal) (k0_pay23 (F := Ideal) (raise u)) (raise v) (ix2 r o) = u (ix2 r o) + v (ix2 r o) := by
  pointwise [k0_pay24, k0_pay23]

/-- Adding the two neighbours' values and then the one across the ring adds all four, in another order. -/
theorem ring_sum (f : Dev nD → EReal) (c : Dev nD) : f c + f (peer c 3) + f (peer c 1) + f (peer c 2) = ∑ s : Dev nD, f s := by
  have e : ∑ s : Dev nD, f s = f 0 + f 1 + f 2 + f 3 := Fin.sum_univ_four f
  have h : ∀ c : Dev nD, (c = 0 ∧ peer c 3 = 3 ∧ peer c 1 = 1 ∧ peer c 2 = 2) ∨ (c = 1 ∧ peer c 3 = 0 ∧ peer c 1 = 2 ∧ peer c 2 = 3)
      ∨ (c = 2 ∧ peer c 3 = 1 ∧ peer c 1 = 3 ∧ peer c 2 = 0) ∨ (c = 3 ∧ peer c 3 = 2 ∧ peer c 1 = 0 ∧ peer c 2 = 1) := by decide
  rw [e]
  rcases h c with ⟨h0, h3, h1, h2⟩ | ⟨h0, h3, h1, h2⟩ | ⟨h0, h3, h1, h2⟩ | ⟨h0, h3, h1, h2⟩ <;> rw [h3, h1, h2, h0] <;> ac_rfl

theorem part_at (c : Dev nD) (r : Fin 128) (o : Fin 512) :
    part A c (ix2 r o) = share A c (token c r) o + share A (peer c 3) (token c r) o + share A (peer c 1) (token c r) o := by
  unfold part
  rw [pay17_at, sent_at, sent_at]
  exact congrArg (fun z => z + _ + _) (mine_at A c c r o)

theorem partSent_at (c : Dev nD) (r : Fin 128) (o : Fin 512) :
    partSent A c (ix2 r o) = share A c (token c r) o + share A (peer c 3) (token c r) o + share A (peer c 1) (token c r) o := by
  unfold partSent
  rw [pay18_at, sent_at, sent_at]
  exact congrArg (fun z => z + _ + _) (mine_at A c c r o)

theorem full_at (c : Dev nD) (r : Fin 128) (o : Fin 512) : full A c (ix2 r o) = ∑ s : Dev nD, share A s (token c r) o := by
  unfold full
  rw [pay19_at, sent_at, part_at, ring_sum fun s => share A s (token c r) o]

theorem fullSent_at (c : Dev nD) (r : Fin 128) (o : Fin 512) : fullSent A c (ix2 r o) = ∑ s : Dev nD, share A s (token c r) o := by
  unfold fullSent
  rw [pay20_at, sent_at, part_at, ring_sum fun s => share A s (token c r) o]

/-- Every device ends with the whole mixture in each block of rows, whoever summed it. -/
theorem rowsOf_at (c q : Dev nD) (r : Fin 128) (o : Fin 512) : rowsOf A c q (ix2 r o) = ∑ s : Dev nD, share A s (token q r) o := by
  have key : ∀ c q : Dev nD, q = c ∨ q = peer c 3 ∨ q = peer c 1 ∨ q = peer c 2 := by decide
  unfold rowsOf
  split_ifs with h0 h3 h1
  · rw [h0]; exact full_at A c r o
  · rw [pay21_at, h3]; exact fullSent_at A _ r o
  · rw [pay22_at, h1]; exact fullSent_at A _ r o
  · have h2 : q = peer c 2 := ((key c q).resolve_left h0 |>.resolve_left h3).resolve_left h1
    have hc : peer q 2 = c := h2 ▸ peer_22 c
    rw [pay24_at, ← h2, partSent_at, sent_at]
    have e := ring_sum (fun s => share A s (token q r) o) q
    rw [hc] at e
    exact e

/-- Each element of the kernel's result is the sum of the four devices' shares of its token. -/
theorem result_at (c : Dev nD) (n o : Fin 512) : result A c (ix2 n o) = ∑ s : Dev nD, share A s n o := by
  have h : rowIdx (ix2 n o) = ix2 (⟨n.val % 128, Nat.mod_lt _ (by decide)⟩ : Fin 128) o := by
    funext a; apply Fin.ext
    match a with
    | ⟨0, _⟩ => rfl
    | ⟨1, _⟩ => rfl
  have ht : token (rowDev (ix2 n o)) ⟨n.val % 128, Nat.mod_lt _ (by decide)⟩ = n :=
    Fin.ext (show 128 * (n.val / 128) + n.val % 128 = n.val by omega)
  show rowsOf A c (rowDev (ix2 n o)) (rowIdx (ix2 n o)) = _
  rw [h, rowsOf_at, ht]

end Cert.Moe

end
-- ==== Proof.Mixture.lean ====
/-
# A weighted sum over all sixteen experts is the sum over the two chosen

With real scores the probabilities are positive reals, so the weights of the experts are real and not
negative: a weight can leave the sum it multiplies, and every expert not chosen has weight zero.
-/
module

public import proofs.«01_k».proof.Proof.KernelValue

@[expose] public section

noncomputable section

namespace Cert.Moe

open Idealize.ShloMosaic

theorem coe_sum {ι : Type} (t : Finset ι) (g : ι → ℝ) : ((∑ i ∈ t, g i : ℝ) : EReal) = ∑ i ∈ t, (g i : EReal) := by
  classical
  induction t using Finset.induction_on with
  | empty => simp
  | insert a t h ih => rw [Finset.sum_insert h, Finset.sum_insert h, EReal.coe_add, ih]

/-- A product of real entries, summed, is real. -/
theorem score_real (x w : Fin 256 → EReal) (hx : ∀ d, ∃ r : ℝ, x d = r) (hw : ∀ d, ∃ r : ℝ, w d = r) :
    ∃ r : ℝ, ∑ d : Fin 256, x d * w d = r := by
  choose a ha using hx
  choose b hb using hw
  refine ⟨∑ d : Fin 256, a d * b d, ?_⟩
  rw [coe_sum]
  exact Finset.sum_congr rfl fun d _ => by rw [ha, hb, EReal.coe_mul]

/-- The probabilities of real scores are positive reals. -/
theorem softmax_real (s : Fin 16 → EReal) (hs : ∀ k, ∃ r : ℝ, s k = r) :
    ∃ p : Fin 16 → ℝ, (∀ k, 0 < p k) ∧ ∀ k, softmax s k = (p k : EReal) := by
  choose a ha using hs
  have hM : ∃ M : ℝ, Finset.univ.fold max ⊥ s = (M : EReal) := by
    have h1 : Finset.univ.fold max ⊥ s ≠ ⊤ := by
      refine ne_of_lt ((Finset.fold_max_lt _).2 ⟨bot_lt_top, fun k _ => ?_⟩)
      rw [ha]; exact EReal.coe_lt_top _
    have h2 : Finset.univ.fold max ⊥ s ≠ ⊥ := by
      refine ne_of_gt ((Finset.lt_fold_max _).2 (Or.inr ⟨0, Finset.mem_univ _, ?_⟩))
      rw [ha]; exact EReal.bot_lt_coe _
    exact ⟨_, (EReal.coe_toReal h1 h2).symm⟩
  obtain ⟨M, hM⟩ := hM
  have he : ∀ k, Ideal.exp (s k - Finset.univ.fold max ⊥ s) = (Real.exp (a k - M) : EReal) := fun k => by
    rw [hM, ha, ← EReal.coe_sub, Ideal.exp_coe]
  have hS : ∑ k' : Fin 16, Ideal.exp (s k' - Finset.univ.fold max ⊥ s) = ((∑ k' : Fin 16, Real.exp (a k' - M) : ℝ) : EReal) := by
    rw [coe_sum]; exact Finset.sum_congr rfl fun k _ => he k
  have hpos : 0 < ∑ k' : Fin 16, Real.exp (a k' - M) := Finset.sum_pos (fun k _ => Real.exp_pos _) Finset.univ_nonempty
  refine ⟨fun k => Real.exp (a k - M) * (1 / ∑ k' : Fin 16, Real.exp (a k' - M)),
    fun k => mul_pos (Real.exp_pos _) (one_div_pos.2 hpos), fun k => ?_⟩
  unfold softmax
  rw [hS, he, Ideal.div_coe hpos.ne', ← EReal.coe_mul]

theorem select_word (a b : Fin 16) (x : EReal) :
    Scalar.select (IntOp.cmpi .eq (BitVec.ofNat 32 a.val) (BitVec.ofNat 32 b.val)) x 0 = if a = b then x else 0 := by
  have h : ∀ a b : Fin 16, IntOp.cmpi .eq (BitVec.ofNat 32 a.val) (BitVec.ofNat 32 b.val) = if a = b then 1#1 else 0#1 := by decide
  rw [h]
  split_ifs <;> rfl

theorem picked_word (p : Fin 16 → EReal) (i : Fin 16) : picked p (BitVec.ofNat 32 i.val) = p i := by
  unfold picked
  simp only [select_word]
  rw [Finset.sum_ite_eq' Finset.univ i, if_pos (Finset.mem_univ i)]

/-- A real factor that is not negative leaves a sum. -/
theorem mul_sum_real {ι : Type} (t : Finset ι) (a : ℝ) (ha : 0 ≤ a) (f : ι → EReal) :
    ∑ i ∈ t, (a : EReal) * f i = (a : EReal) * ∑ i ∈ t, f i := by
  classical
  induction t using Finset.induction_on with
  | empty => simp
  | insert b t h ih =>
    rw [Finset.sum_insert h, Finset.sum_insert h, ih,
      EReal.left_distrib_of_nonneg_of_ne_top (EReal.coe_nonneg.2 ha) (EReal.coe_ne_top a)]

/-- The sum over all experts, each weighted, is the weighted sum over the two chosen. -/
theorem mixture (X : Fin 256 → EReal) (p : Fin 16 → EReal) (P : Fin 16 → ℝ) (hP : ∀ k, 0 < P k) (hp : ∀ k, p k = (P k : EReal))
    (i0 i1 : Fin 16) (W : Fin 16 → Fin 256 → EReal) :
    ∑ e : Fin 16, ∑ d : Fin 256, X d * weight p (BitVec.ofNat 32 i0.val) (BitVec.ofNat 32 i1.val) (BitVec.ofNat 32 e.val) * W e d
      = Ideal.div (p i0) (p i0 + p i1) * (∑ d : Fin 256, X d * W i0 d)
        + Ideal.div (p i1) (p i0 + p i1) * (∑ d : Fin 256, X d * W i1 d) := by
  have hg : 0 < P i0 + P i1 := add_pos (hP i0) (hP i1)
  have hgs : p i0 + p i1 = ((P i0 + P i1 : ℝ) : EReal) := by rw [hp, hp, EReal.coe_add]
  have hdiv : ∀ r : ℝ, Ideal.div (r : EReal) ((P i0 + P i1 : ℝ) : EReal) = ((r * (1 / (P i0 + P i1)) : ℝ) : EReal) := fun r => by
    rw [Ideal.div_coe hg.ne', ← EReal.coe_mul]
  have hnn : ∀ r : ℝ, 0 ≤ r → 0 ≤ r * (1 / (P i0 + P i1)) := fun r hr => mul_nonneg hr (one_div_pos.2 hg).le
  have hw : ∀ e : Fin 16, weight p (BitVec.ofNat 32 i0.val) (BitVec.ofNat 32 i1.val) (BitVec.ofNat 32 e.val)
      = (((if i0 = e then P i0 else 0) * (1 / (P i0 + P i1)) : ℝ) : EReal) + (((if i1 = e then P i1 else 0) * (1 / (P i0 + P i1)) : ℝ) : EReal) := fun e => by
    unfold weight
    rw [picked_word, picked_word, select_word, select_word, hgs, ← EReal.coe_add, ← add_mul, ← hdiv, EReal.coe_add]
    congr 2 <;> split_ifs <;> simp [hp]
  have hinner : ∀ e : Fin 16, ∑ d : Fin 256, X d * weight p (BitVec.ofNat 32 i0.val) (BitVec.ofNat 32 i1.val) (BitVec.ofNat 32 e.val) * W e d
      = (if i0 = e then Ideal.div (p i0) (p i0 + p i1) * (∑ d : Fin 256, X d * W i0 d) else 0)
        + (if i1 = e then Ideal.div (p i1) (p i0 + p i1) * (∑ d : Fin 256, X d * W i1 d) else 0) := fun e => by
    have ha : ∀ i : Fin 16, 0 ≤ (if i = e then P i else 0) * (1 / (P i0 + P i1)) := fun i => hnn _ (by split_ifs <;> [exact (hP i).le; exact le_rfl])
    have hone : ∀ i : Fin 16, (((if i = e then P i else 0) * (1 / (P i0 + P i1)) : ℝ) : EReal) * (∑ d : Fin 256, X d * W e d)
        = if i = e then Ideal.div (p i) (p i0 + p i1) * (∑ d : Fin 256, X d * W i d) else 0 := fun i => by
      split_ifs with h
      · rw [hgs, hp, hdiv, h]
      · rw [zero_mul, EReal.coe_zero, zero_mul]
    rw [← hone, ← hone, ← mul_sum_real _ _ (ha i0), ← mul_sum_real _ _ (ha i1), ← Finset.sum_add_distrib]
    refine Finset.sum_congr rfl fun d _ => ?_
    rw [hw, mul_comm (X d), mul_assoc, EReal.right_distrib_of_nonneg (EReal.coe_nonneg.2 (ha i0)) (EReal.coe_nonneg.2 (ha i1))]
  rw [Finset.sum_congr rfl fun e _ => hinner e, Finset.sum_add_distrib, Finset.sum_ite_eq, Finset.sum_ite_eq,
    if_pos (Finset.mem_univ _), if_pos (Finset.mem_univ _)]

end Cert.Moe

end
-- ==== Proof.RefValue.lean ====
/-
# The reference's value, element by element

The reference's composed term in named steps, and each of them read at one index, for choices in range:
a choice in range is not wrapped, its mask is set, and both gathers read the expert it names.
-/
module

public import proofs.«01_k».proof.Proof.Mixture
public import proofs.«01_k».proof.Proof.Gen.ReferenceIdeal.Run
public import Idealize.ShloMosaic.Lib.Pointwise

@[expose] public section

set_option maxRecDepth 16384

noncomputable section

namespace Cert.MoeRef

open Cert.ReferenceIdeal Cert.ReferenceIdeal.Gen
open Idealize.ShloMosaic
open Idealize.ShloMosaic.TcCoe
open Cert.Moe (score softmax)

/-- The router's scores. -/
def scores (x : FVec Ideal S512x256 .f32) (w : FVec Ideal S256x16 .f32) : FVec Ideal S512x16 .f32 :=
  Host.dotGeneral dot_S512x256_S256x16_S512x16_1_0_0_1_n_n none x w

/-- The exponentials of the scores, each less its token's greatest. -/
def exps (x : FVec Ideal S512x256 .f32) (w : FVec Ideal S256x16 .f32) : FVec Ideal S512x16 .f32 :=
  Host.exp (subf (scores x w) (broadcastInDim S512x16 ![0, 1] bcast_S512x1_S512x16_0_1 (broadcastInDim S512x1 ![0] bcast_S512_S512x1_0
    (Host.reduce FloatOps.maximumf (scores x w) (constant S_ .f32 0xFF800000#32) reducesTo_S512x16_S512_d1 h_S_))))

/-- The router's probabilities. -/
def probs (x : FVec Ideal S512x256 .f32) (w : FVec Ideal S256x16 .f32) : FVec Ideal S512x16 .f32 :=
  Host.divf (exps x w) (broadcastInDim S512x16 ![0, 1] bcast_S512x1_S512x16_0_1 (broadcastInDim S512x1 ![0] bcast_S512_S512x1_0
    (Host.reduceAdd (exps x w) (constant S_ .f32 0x00000000#32) reducesTo_S512x16_S512_d1 h_S_)))

/-- The choices, negative ones counted from the end, as the gather's start indices. -/
def starts (i : IVec S512x2 32) : IVec S512x2x1 32 :=
  shapeCast _ (select (cmpi .slt i (broadcastInDim S512x2 ![] bcast_S_S512x2 (constantI S_ 32 0#32)))
    (addi i (broadcastInDim S512x2 ![] bcast_S_S512x2 (constantI S_ 32 16#32))) i) shapeCasts_S512x2_S512x2x1

/-- Which start indices name an expert. -/
def inRange (i : IVec S512x2 32) : IVec S512x2 1 :=
  Host.reduce IntOp.andi (andi (cmpi .sge (starts i) (broadcastInDim S512x2x1 ![] bcast_S_S512x2x1 (constantI S_ 32 0#32)))
    (cmpi .sle (starts i) (broadcastInDim S512x2x1 ![0, 1, 2] bcast_S1x1x1_S512x2x1_0_1_2 (broadcastInDim S1x1x1 ![2] bcast_S1_S1x1x1_2 (constantI S1 32 15#32)))))
    (constantI S_ 1 1#1) reducesTo_S512x2x1_S512x2_d2 h_S_

/-- The probabilities of the two choices. -/
def taken (p : FVec Ideal S512x16 .f32) (i : IVec S512x2 32) : FVec Ideal S512x2 .f32 :=
  select (inRange i) (Host.gather gather_S512x16_S512x2x1_S512x2_n_1_0_0_1_2_11 p (starts i))
    (broadcastInDim S512x2 ![] bcast_S_S512x2 (constant S_ .f32 0x7FC00000#32))

/-- One column of choices, negative ones counted from the end. -/
def column (v : IVec S512 32) : IVec S512x1 32 :=
  broadcastInDim S512x1 ![0] bcast_S512_S512x1_0 (select (cmpi .slt v (broadcastInDim S512 ![] bcast_S_S512 (constantI S_ 32 0#32)))
    (addi v (broadcastInDim S512 ![] bcast_S_S512 (constantI S_ 32 16#32))) v)

/-- Every token through the expert that its entry of the column names. -/
def through (x : FVec Ideal S512x256 .f32) (W : FVec Ideal S16x256x512 .f32) (v : IVec S512 32) : FVec Ideal S512x512 .f32 :=
  Host.dotGeneral dot_S512x256_S512x256x512_S512x512_1_1_n_2_0_0 none x
    (Host.gather gather_S16x256x512_S512x1_S512x256x512_12_0_n_n_0_1_1256512 W (column v))

/-- The mixture. -/
def mixed (x : FVec Ideal S512x256 .f32) (p : FVec Ideal S512x2 .f32) (i : IVec S512x2 32) (W : FVec Ideal S16x256x512 .f32) : FVec Ideal S512x512 .f32 :=
  addf
    (mulf (broadcastInDim S512x512 ![0, 1] bcast_S512x1_S512x512_0_1 (Host.divf (extractStridedSlice S512x1 ![0, 0] p slices_S512x2_S512x1_0_0)
        (addf (extractStridedSlice S512x1 ![0, 0] p slices_S512x2_S512x1_0_0) (extractStridedSlice S512x1 ![0, 1] p slices_S512x2_S512x1_0_1))))
      (through x W (shapeCast _ (extractStridedSlice S512x1 ![0, 0] i slices_S512x2_S512x1_0_0) shapeCasts_S512x1_S512)))
    (mulf (broadcastInDim S512x512 ![0, 1] bcast_S512x1_S512x512_0_1 (Host.divf (extractStridedSlice S512x1 ![0, 1] p slices_S512x2_S512x1_0_1)
        (addf (extractStridedSlice S512x1 ![0, 0] p slices_S512x2_S512x1_0_0) (extractStridedSlice S512x1 ![0, 1] p slices_S512x2_S512x1_0_1))))
      (through x W (shapeCast _ (extractStridedSlice S512x1 ![0, 1] i slices_S512x2_S512x1_0_1) shapeCasts_S512x1_S512)))

theorem res_eq (m : (ℓ : Loc nD τ sig) → Buf (Elt Ideal) ℓ) (c : Dev nD) :
    Cert.ReferenceIdeal.Value.res_main_v42 m c
      = mixed (m ((c.tc : Thread nD τ).loc main_arg0)) (taken (probs (m ((c.tc : Thread nD τ).loc main_arg0)) (m ((c.tc : Thread nD τ).loc main_arg1)))
          (m ((c.tc : Thread nD τ).loc main_arg2))) (m ((c.tc : Thread nD τ).loc main_arg2)) (m ((c.tc : Thread nD τ).loc main_arg3)) := rfl

theorem probs_at (x : FVec Ideal S512x256 .f32) (w : FVec Ideal S256x16 .f32) (n : Fin 512) (k : Fin 16) :
    probs x w (ix2 n k) = softmax (score x w n) k := by
  pointwise [probs, exps, scores, softmax, score]
  rw [show Ideal.ofBits FTy.f32 0xFF800000#32 = ⊥ by simp [Ideal.ofBits, Ideal.ieee]]

/-- The choices as words. -/
def words (c : Fin 512 → Fin 2 → Fin 16) : IVec S512x2 32 := fun y => BitVec.ofNat 32 (c (y 0) (y 1)).val

theorem words_at (c : Fin 512 → Fin 2 → Fin 16) (n : Fin 512) (j : Fin 2) : words c (ix2 n j) = BitVec.ofNat 32 (c n j).val := rfl

theorem unwrapped (e : Fin 16) :
    Scalar.select (IntOp.cmpi .slt (BitVec.ofNat 32 e.val) 0#32) (IntOp.addi (BitVec.ofNat 32 e.val) 16#32) (BitVec.ofNat 32 e.val)
      = BitVec.ofNat 32 e.val := by revert e; decide

theorem clamped (e : Fin 16) : min (BitVec.ofNat 32 e.val).toInt.toNat 15 = e.val := by revert e; decide

theorem in_range (e : Fin 16) :
    IntOp.andi (IntOp.cmpi .sge (BitVec.ofNat 32 e.val) 0#32) (IntOp.cmpi .sle (BitVec.ofNat 32 e.val) 15#32) = 1#1 := by
  revert e; decide

theorem starts_at (c : Fin 512 → Fin 2 → Fin 16) (n : Fin 512) (j : Fin 2) : starts (words c) (ix3 n j 0) = BitVec.ofNat 32 (c n j).val := by
  pointwise [starts]
  rw [words_at]; exact unwrapped _

/-- The gather of probabilities at an index whose start names an expert. -/
theorem gatherP_at (p : FVec Ideal S512x16 .f32) (s : IVec S512x2x1 32) (n : Fin 512) (j : Fin 2) (e : Fin 16) (h : s (ix3 n j 0) = BitVec.ofNat 32 e.val) :
    Host.gather gather_S512x16_S512x2x1_S512x2_n_1_0_0_1_2_11 p s (ix2 n j) = p (ix2 n e) := by
  unfold Host.gather
  refine congrArg p ?_
  funext a; apply Fin.ext
  show gather_S512x16_S512x2x1_S512x2_n_1_0_0_1_2_11.start (ix2 n j) s a + gather_S512x16_S512x2x1_S512x2_n_1_0_0_1_2_11.batchCoord (ix2 n j) a
    + gather_S512x16_S512x2x1_S512x2_n_1_0_0_1_2_11.offCoord (ix2 n j) a = _
  rcases (show a = 0 ∨ a = 1 from match a with | ⟨0, _⟩ => Or.inl rfl | ⟨1, _⟩ => Or.inr rfl) with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    have hm : (0 : Fin 2) ∈ gather_S512x16_S512x2x1_S512x2_n_1_0_0_1_2_11.operandBatchingDims := List.mem_singleton.mpr rfl
    rw [dif_pos hm]
    exact Nat.zero_add n.val
  · rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    unfold GatherDims.start
    have hm : (1 : Fin 2) ∈ gather_S512x16_S512x2x1_S512x2_n_1_0_0_1_2_11.startIndexMap := List.mem_singleton.mpr rfl
    rw [dif_pos hm]
    rw [show gather_S512x16_S512x2x1_S512x2_n_1_0_0_1_2_11.siIdx (ix2 n j) ⟨List.idxOf (1 : Fin 2) gather_S512x16_S512x2x1_S512x2_n_1_0_0_1_2_11.startIndexMap, List.idxOf_lt_length_iff.2 hm⟩ = ix3 n j 0 from by
      funext b; apply Fin.ext
      match b with
      | ⟨0, _⟩ => rfl
      | ⟨1, _⟩ => rfl
      | ⟨2, _⟩ => rfl, h]
    exact clamped e

/-- The gather of experts at an index whose start names an expert. -/
theorem gatherW_at (W : FVec Ideal S16x256x512 .f32) (s : IVec S512x1 32) (n : Fin 512) (d : Fin 256) (o : Fin 512) (e : Fin 16) (h : s (ix2 n 0) = BitVec.ofNat 32 e.val) :
    Host.gather gather_S16x256x512_S512x1_S512x256x512_12_0_n_n_0_1_1256512 W s (ix3 n d o) = W (ix3 e d o) := by
  unfold Host.gather
  refine congrArg W ?_
  funext a; apply Fin.ext
  show gather_S16x256x512_S512x1_S512x256x512_12_0_n_n_0_1_1256512.start (ix3 n d o) s a + gather_S16x256x512_S512x1_S512x256x512_12_0_n_n_0_1_1256512.batchCoord (ix3 n d o) a
    + gather_S16x256x512_S512x1_S512x256x512_12_0_n_n_0_1_1256512.offCoord (ix3 n d o) a = _
  rw [GatherDims.batchCoord_eq_zero _ _ _ List.not_mem_nil]
  rcases (show a = 0 ∨ a = 1 ∨ a = 2 from match a with | ⟨0, _⟩ => Or.inl rfl | ⟨1, _⟩ => Or.inr (Or.inl rfl) | ⟨2, _⟩ => Or.inr (Or.inr rfl)) with rfl | rfl | rfl
  · rw [GatherDims.offCoord_eq_zero _ _ _ (fun h => ((GatherDims.mem_sKept _ _).mp h).1 (List.mem_singleton.mpr rfl))]
    unfold GatherDims.start
    have hm : (0 : Fin 3) ∈ gather_S16x256x512_S512x1_S512x256x512_12_0_n_n_0_1_1256512.startIndexMap := List.mem_singleton.mpr rfl
    rw [dif_pos hm]
    rw [show gather_S16x256x512_S512x1_S512x256x512_12_0_n_n_0_1_1256512.siIdx (ix3 n d o) ⟨List.idxOf (0 : Fin 3) gather_S16x256x512_S512x1_S512x256x512_12_0_n_n_0_1_1256512.startIndexMap, List.idxOf_lt_length_iff.2 hm⟩ = ix2 n 0 from by
      funext b; apply Fin.ext
      match b with
      | ⟨0, _⟩ => rfl
      | ⟨1, _⟩ => rfl, h]
    exact clamped e
  · unfold GatherDims.start GatherDims.offCoord
    have h0 : (1 : Fin 3) ∉ gather_S16x256x512_S512x1_S512x256x512_12_0_n_n_0_1_1256512.startIndexMap := show (1 : Fin 3) ∉ [(0 : Fin 3)] by decide
    have hm : (1 : Fin 3) ∈ gather_S16x256x512_S512x1_S512x256x512_12_0_n_n_0_1_1256512.sKept := (GatherDims.mem_sKept _ _).mpr ⟨(show (1 : Fin 3) ∉ [(0 : Fin 3)] by decide), List.not_mem_nil⟩
    rw [dif_neg h0, dif_pos hm]
    exact Nat.zero_add d.val
  · unfold GatherDims.start GatherDims.offCoord
    have h0 : (2 : Fin 3) ∉ gather_S16x256x512_S512x1_S512x256x512_12_0_n_n_0_1_1256512.startIndexMap := show (2 : Fin 3) ∉ [(0 : Fin 3)] by decide
    have hm : (2 : Fin 3) ∈ gather_S16x256x512_S512x1_S512x256x512_12_0_n_n_0_1_1256512.sKept := (GatherDims.mem_sKept _ _).mpr ⟨(show (2 : Fin 3) ∉ [(0 : Fin 3)] by decide), List.not_mem_nil⟩
    rw [dif_neg h0, dif_pos hm]
    exact Nat.zero_add o.val

theorem column_at (v : IVec S512 32) (n : Fin 512) (e : Fin 16) (h : v (ix1 n) = BitVec.ofNat 32 e.val) : column v (ix2 n 0) = BitVec.ofNat 32 e.val := by
  pointwise [column]
  rw [h]; exact unwrapped e

theorem inRange_at (c : Fin 512 → Fin 2 → Fin 16) (n : Fin 512) (j : Fin 2) : inRange (words c) (ix2 n j) = 1#1 := by
  pointwise [inRange]
  rw [Finset.univ_unique, Finset.fold_singleton]
  show IntOp.andi (IntOp.andi (IntOp.cmpi .sge (starts (words c) (ix3 n j 0)) 0#32) (IntOp.cmpi .sle (starts (words c) (ix3 n j 0)) 15#32)) 1#1 = 1#1
  rw [starts_at, in_range]; rfl

theorem through_at (x : FVec Ideal S512x256 .f32) (W : FVec Ideal S16x256x512 .f32) (v : IVec S512 32) (n o : Fin 512) (e : Fin 16) (h : v (ix1 n) = BitVec.ofNat 32 e.val) :
    through x W v (ix2 n o) = ∑ d : Fin 256, x (ix2 n d) * W (ix3 e d o) := by
  unfold through
  have hg := fun d => gatherW_at W (column v) n d o e (column_at v n e h)
  generalize Host.gather gather_S16x256x512_S512x1_S512x256x512_12_0_n_n_0_1_1256512 W (column v) = V at hg
  pointwise
  exact Finset.sum_congr rfl fun d _ => congrArg (x (ix2 n d) * ·) (hg d)

theorem mixed_at (x : FVec Ideal S512x256 .f32) (p : FVec Ideal S512x2 .f32) (c : Fin 512 → Fin 2 → Fin 16) (W : FVec Ideal S16x256x512 .f32) (n o : Fin 512) :
    mixed x p (words c) W (ix2 n o) = Ideal.div (p (ix2 n 0)) (p (ix2 n 0) + p (ix2 n 1)) * (∑ d : Fin 256, x (ix2 n d) * W (ix3 (c n 0) d o))
        + Ideal.div (p (ix2 n 1)) (p (ix2 n 0) + p (ix2 n 1)) * (∑ d : Fin 256, x (ix2 n d) * W (ix3 (c n 1) d o)) := by
  have h0 := through_at x W (shapeCast _ (extractStridedSlice S512x1 ![0, 0] (words c) slices_S512x2_S512x1_0_0) shapeCasts_S512x1_S512) n o (c n 0) (by pointwise; rfl)
  have h1 := through_at x W (shapeCast _ (extractStridedSlice S512x1 ![0, 1] (words c) slices_S512x2_S512x1_0_1) shapeCasts_S512x1_S512) n o (c n 1) (by pointwise; rfl)
  rw [← h0, ← h1]
  pointwise [mixed]

theorem taken_at (p : FVec Ideal S512x16 .f32) (c : Fin 512 → Fin 2 → Fin 16) (n : Fin 512) (j : Fin 2) :
    taken p (words c) (ix2 n j) = p (ix2 n (c n j)) := by
  rw [← gatherP_at p (starts (words c)) n j (c n j) (starts_at c n j)]
  have h := inRange_at c n j
  unfold taken
  generalize Host.gather gather_S512x16_S512x2x1_S512x2_n_1_0_0_1_2_11 p (starts (words c)) = y
  generalize inRange (words c) = z at h
  pointwise
  rw [h]; rfl

/-- Each element of the reference's result is the weighted sum over the token's two chosen experts. -/
theorem result_at (x : FVec Ideal S512x256 .f32) (w : FVec Ideal S256x16 .f32) (c : Fin 512 → Fin 2 → Fin 16) (W : FVec Ideal S16x256x512 .f32) (n o : Fin 512) :
    mixed x (taken (probs x w) (words c)) (words c) W (ix2 n o)
      = Ideal.div (softmax (score x w n) (c n 0)) (softmax (score x w n) (c n 0) + softmax (score x w n) (c n 1)) * (∑ d : Fin 256, x (ix2 n d) * W (ix3 (c n 0) d o))
        + Ideal.div (softmax (score x w n) (c n 1)) (softmax (score x w n) (c n 0) + softmax (score x w n) (c n 1)) * (∑ d : Fin 256, x (ix2 n d) * W (ix3 (c n 1) d o)) := by
  rw [mixed_at, taken_at, taken_at, probs_at, probs_at]

end Cert.MoeRef

end
-- ==== Proof.Agree.lean ====
/-
# The kernel's result is the reference's

What the precondition says of one entry, and the equality of the two results: for real tokens and router
weights and choices in range, with the same tokens, router weights and choices on every device and device
`s` holding experts `4 s` to `4 s + 3`.
-/
module

public import proofs.«01_k».proof.Proof.RefValue
public import Idealize.ShloMosaic.Lib.Pointwise
public import proofs.«01_k».proof.Proof.Gen.Pre_valid_inputs_KernelIdeal

@[expose] public section

set_option maxRecDepth 16384

noncomputable section

namespace Cert.Agree

open Idealize.ShloMosaic
open Cert.Moe (Ins result share score softmax)
open Cert.KernelIdeal (S512x256 S256x16 S512x2 S4x256x512 S512x512 nD)
open Cert.ReferenceIdeal (S16x256x512)

theorem real_of_abs (v : EReal) (h : FloatOps.cmpf (F := Ideal) (φ := .f32) .olt (FloatOps.hostAbsf (F := Ideal) (φ := .f32) v) (Ideal.ofBits .f32 0x7F800000#32) = 1#1) : ∃ r : ℝ, v = r := by
  have ht : Ideal.ofBits .f32 0x7F800000#32 = ⊤ := by simp [Ideal.ofBits, Ideal.ieee]
  rw [ht] at h
  induction v with
  | bot => exact absurd h (by simp [FloatOps.cmpf, FloatOps.hostAbsf, Ideal.cmp])
  | coe r => exact ⟨r, rfl⟩
  | top => exact absurd h (by simp [FloatOps.cmpf, FloatOps.hostAbsf, Ideal.cmp])

theorem word_of_range (v : BitVec 32) (h : IntOp.andi (IntOp.cmpi .sge v 0#32) (IntOp.cmpi .slt v 16#32) = 1#1) :
    ∃ e : Fin 16, v = BitVec.ofNat 32 e.val := by
  have hand : ∀ a b : BitVec 1, IntOp.andi a b = 1#1 → a = 1#1 ∧ b = 1#1 := by decide
  obtain ⟨h0, h1⟩ := hand _ _ h
  have hb : ∀ b : Bool, BitVec.ofBool b = 1#1 → b = true := by decide
  have h0' : (0#32 : BitVec 32).toInt ≤ v.toInt := BitVec.sle_iff_toInt_le.1 (hb _ h0)
  have h1' : v.toInt < (16#32 : BitVec 32).toInt := BitVec.slt_iff_toInt_lt.1 (hb _ h1)
  have e0 : (0#32 : BitVec 32).toInt = 0 := by decide
  have e1 : (16#32 : BitVec 32).toInt = 16 := by decide
  rw [e0] at h0'; rw [e1] at h1'
  have := v.isLt
  rw [BitVec.toInt_eq_toNat_cond] at h0' h1'
  have hv : v.toNat < 16 := by split_ifs at h0' h1' <;> omega
  exact ⟨⟨v.toNat, hv⟩, (BitVec.ofNat_toNat 32 v ▸ by simp)⟩

theorem pre_x (x : FVec Ideal S512x256 .f32) (w : FVec Ideal S256x16 .f32) (i : IVec S512x2 32) (e : FVec Ideal S4x256x512 .f32)
    (h : (Cert.Pre_valid_inputs_KernelIdeal.fn (F := Ideal) x w i e).1 = fun _ => 1#1) (n : Fin 512) (d : Fin 256) : ∃ r : ℝ, x (ix2 n d) = r := by
  have h := congrFun h (ix2 n d)
  pointwise [Cert.Pre_valid_inputs_KernelIdeal.fn] at h
  exact real_of_abs _ h

theorem pre_w (x : FVec Ideal S512x256 .f32) (w : FVec Ideal S256x16 .f32) (i : IVec S512x2 32) (e : FVec Ideal S4x256x512 .f32)
    (h : (Cert.Pre_valid_inputs_KernelIdeal.fn (F := Ideal) x w i e).2.1 = fun _ => 1#1) (d : Fin 256) (k : Fin 16) : ∃ r : ℝ, w (ix2 d k) = r := by
  have h := congrFun h (ix2 d k)
  pointwise [Cert.Pre_valid_inputs_KernelIdeal.fn] at h
  exact real_of_abs _ h

theorem pre_i (x : FVec Ideal S512x256 .f32) (w : FVec Ideal S256x16 .f32) (i : IVec S512x2 32) (e : FVec Ideal S4x256x512 .f32)
    (h : (Cert.Pre_valid_inputs_KernelIdeal.fn (F := Ideal) x w i e).2.2 = fun _ => 1#1) (n : Fin 512) (j : Fin 2) :
    ∃ k : Fin 16, i (ix2 n j) = BitVec.ofNat 32 k.val := by
  have h := congrFun h (ix2 n j)
  pointwise [Cert.Pre_valid_inputs_KernelIdeal.fn] at h
  exact word_of_range _ h

theorem agree (A : Ins Ideal) (x : FVec Ideal S512x256 .f32) (w : FVec Ideal S256x16 .f32) (i : IVec S512x2 32) (W : FVec Ideal S16x256x512 .f32)
    (hx : ∀ s, A.x s = x) (hw : ∀ s, A.w s = w) (hi : ∀ s, A.i s = i)
    (he : ∀ (s : Dev nD) (l : Fin 4) (d : Fin 256) (o : Fin 512), A.e s (ix3 l d o) = W (ix3 ⟨s.val * 4 + l.val, by have : s.val < 4 := s.isLt; omega⟩ d o))
    (fx : ∀ n d, ∃ r : ℝ, x (ix2 n d) = r) (fw : ∀ d k, ∃ r : ℝ, w (ix2 d k) = r) (fi : ∀ n j, ∃ k : Fin 16, i (ix2 n j) = BitVec.ofNat 32 k.val)
    (c : Dev nD) : result A c = Cert.MoeRef.mixed x (Cert.MoeRef.taken (Cert.MoeRef.probs x w) i) i W := by
  choose t ht using fi
  have hwords : i = Cert.MoeRef.words t := by
    funext y
    idx_vars y
    exact ht _ _
  funext y
  obtain ⟨n, o, rfl⟩ : ∃ n o : Fin 512, y = ix2 n o := ⟨y 0, y 1, eq_ix2 y⟩
  rw [Cert.Moe.result_at, hwords, Cert.MoeRef.result_at]
  obtain ⟨P, hP, hp⟩ := Cert.Moe.softmax_real (score x w n) fun k => Cert.Moe.score_real _ _ (fx n) fun d => fw d k
  rw [← Cert.Moe.mixture (fun d => x (ix2 n d)) (softmax (score x w n)) P hP hp (t n 0) (t n 1) fun e d => W (ix3 e d o),
    Fin.sum_univ_tiles 4 4 rfl]
  refine Finset.sum_congr rfl fun s _ => Finset.sum_congr rfl fun l _ => Finset.sum_congr rfl fun d _ => ?_
  rw [hx, hw, hi, he, ht, ht]

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_valid_inputs_KernelIdeal
public import proofs.«01_k».proof.Proof.Gen.Pre_valid_inputs_ReferenceIdeal
public import proofs.«01_k».proof.Proof.Outcome
public import proofs.«01_k».proof.Proof.Agree
public import Idealize.ShloMosaic.Adequacy
public import Idealize.ShloMosaic.Init

@[expose] public section

noncomputable section

namespace Cert.Proof

open Idealize.ShloMosaic Idealize.SL.Sem

/-- No operation was rewritten: the kernel's body table is its idealization's. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
theorem defs_eq : Cert.Kernel.defs (F := Bits) = Cert.KernelIdeal.defs (F := Bits) :=
  congrArg (Pipeline.defs Cert.KernelIdeal.pcfgs) defs₀_eq

/-- The kernel on machine floats: every fair run ends, the arguments unchanged and every semaphore at zero. -/
theorem frame_kernel : Cert.quiescent_Kernel := fun m ρ _ => by
  rw [defs_eq]
  exact Cert.Moe.run_args (F := Bits) m ρ

/-- The kernel on extended reals: the same. -/
theorem frame_ideal : Cert.quiescent_KernelIdeal := fun m ρ _ => Cert.Moe.run_args (F := Ideal) m ρ

/-- The reference on extended reals: the same. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's runs and the reference's end in the same result, given the precondition. -/
theorem algebraic : Cert.algebraic_KernelIdeal_ReferenceIdeal_pre_valid_inputs_KernelIdeal := fun m g m' g' hpre hlay => by
  refine ⟨Cert.ReferenceIdeal.Value.res_main_v42 m' 0, ?_, ?_⟩
  · refine (θ_run Cert.KernelIdeal.defs _ _).mono (fun r h c => ⟨(h c).1.trans ?_, (h c).2⟩) (Cert.Moe.run_result (F := Ideal) m g)
    rw [Cert.MoeRef.res_eq]
    refine Cert.Agree.agree (Cert.Moe.ins m) _ _ _ _ (fun s => (Cert.Moe.ins_x m s).trans (hlay s).1) (fun s => (Cert.Moe.ins_w m s).trans (hlay s).2.1)
      (fun s => (Cert.Moe.ins_i m s).trans (hlay s).2.2.1) (fun s l d o => ?_) (fun n d => ?_) (fun d k => ?_) (fun n j => ?_) c
    · rw [(Cert.Moe.ins_e m s).trans (hlay s).2.2.2]
      refine congrArg (m' _) (funext fun a => Fin.ext ?_)
      match a with
      | ⟨0, _⟩ => rfl
      | ⟨1, _⟩ => rfl
      | ⟨2, _⟩ => rfl
    · rw [← (hlay c).1]; exact Cert.Agree.pre_x _ _ _ _ (hpre c).1 n d
    · rw [← (hlay c).2.1]; exact Cert.Agree.pre_w _ _ _ _ (hpre c).2.1 d k
    · rw [← (hlay c).2.2.1]; exact Cert.Agree.pre_i _ _ _ _ (hpre c).2.2 n j
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_valid_inputs_KernelIdeal.Gen.facts,
    Cert.Pre_valid_inputs_ReferenceIdeal.Gen.facts, frame_kernel, frame_ideal, fun m ρ _ => Cert.Moe.run_args (F := Ideal) m ρ, frame_reference,
    fun m ρ _ => frame_reference m ρ trivial, trivial, algebraic⟩

end Cert.Proof

end
